-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 2048]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x512 : Shape := ⟨2, ![4096, 512]⟩
abbrev S4096x256 : Shape := ⟨2, ![4096, 256]⟩
abbrev S1024x512 : Shape := ⟨2, ![1024, 512]⟩
abbrev S1024x256 : Shape := ⟨2, ![1024, 256]⟩
abbrev S14 : Shape := ⟨1, ![14]⟩
abbrev S8 : Shape := ⟨1, ![8]⟩
abbrev S1 : Shape := ⟨1, ![1]⟩
abbrev S_ : Shape := ⟨0, ![]⟩

abbrev nBuf : Space → Nat
  | .hbm => 3
  | .vmem => 22
  | .smem => 0
  | _ => 0

abbrev bufTy : (tb : Table) → Fin (tcTables nBuf tb) → BufTy
  | .hbm, ⟨0, _⟩ => ⟨S1024x4096, .f32⟩
  | .hbm, ⟨1, _⟩ => ⟨S4096x512, .bf16⟩
  | .hbm, ⟨2, _⟩ => ⟨S4096x512, .f32⟩
  | .local _ .vmem, ⟨0, _⟩ => ⟨S4096x512, .bf16⟩
  | .local _ .vmem, ⟨1, _⟩ => ⟨S1024x4096, .f32⟩
  | .local _ .vmem, ⟨2, _⟩ => ⟨S1024x4096, .bf16⟩
  | .local _ .vmem, ⟨3, _⟩ => ⟨S4096x512, .bf16⟩
  | .local _ .vmem, ⟨4, _⟩ => ⟨S4096x512, .bf16⟩
  | .local _ .vmem, ⟨5, _⟩ => ⟨S4096x256, .bf16⟩
  | .local _ .vmem, ⟨6, _⟩ => ⟨S4096x256, .bf16⟩
  | .local _ .vmem, ⟨7, _⟩ => ⟨S1024x512, .bf16⟩
  | .local _ .vmem, ⟨8, _⟩ => ⟨S1024x512, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x512, .bf16⟩
  | .local _ .vmem, ⟨14, _⟩ => ⟨S1024x512, .bf16⟩
  | .local _ .vmem, ⟨15, _⟩ => ⟨S1024x256, .bf16⟩
  | .local _ .vmem, ⟨16, _⟩ => ⟨S1024x256, .bf16⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S1024x256, .f32⟩
  | .local _ .vmem, ⟨21, _⟩ => ⟨S1024x256, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_scratch12 : Ref sig .tc := ⟨.vmem, 13, rfl⟩
abbrev cc0_scratch13 : Ref sig .tc := ⟨.vmem, 14, rfl⟩
abbrev cc0_scratch14 : Ref sig .tc := ⟨.vmem, 15, rfl⟩
abbrev cc0_scratch15 : Ref sig .tc := ⟨.vmem, 16, rfl⟩
abbrev cc0_scratch16 : Ref sig .tc := ⟨.vmem, 17, rfl⟩
abbrev cc0_scratch17 : Ref sig .tc := ⟨.vmem, 18, rfl⟩
abbrev cc0_scratch18 : Ref sig .tc := ⟨.vmem, 19, rfl⟩
abbrev cc0_scratch19 : Ref sig .tc := ⟨.vmem, 20, rfl⟩
abbrev cc0_scratch20 : Ref sig .tc := ⟨.vmem, 21, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21 : BitVec 32 := 1#32
  let v39 : BitVec 32 := Scalar.muli v13 c1_i32_21
  let v40 : BitVec 32 := Scalar.addi c0_i32_22 v39
  v40.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24 : BitVec 32 := 1#32
  let v41 : BitVec 32 := Scalar.muli v24 c1_i32_24
  let v42 : BitVec 32 := Scalar.addi c0_i32_25 v41
  v42.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_29 : BitVec 32 := 1#32
  let v43 : BitVec 32 := Scalar.muli v24 c1_i32_29
  let v44 : BitVec 32 := Scalar.addi c0_i32_30 v43
  v44.toNat
def k0_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_37 : BitVec 32 := 1#32
  let v51 : BitVec 32 := Scalar.muli v13 c1_i32_37
  let v52 : BitVec 32 := Scalar.addi c0_i32_38 v51
  v52.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v73 : BitVec 32 := Scalar.muli v2 c1024_i32
  let c0_i32_53 : BitVec 32 := 0#32
  ![v73.toNat, 0]
def k0_dev5 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_64 : BitVec 32 := 1#32
  let v83 : BitVec 32 := Scalar.muli v24 c1_i32_64
  let v84 : BitVec 32 := Scalar.addi c0_i32_65 v83
  v84.toNat
def k0_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_70 : BitVec 32 := 1#32
  let v90 : BitVec 32 := Scalar.muli v24 c1_i32_70
  let v91 : BitVec 32 := Scalar.addi c0_i32_71 v90
  v91.toNat
def k0_dev7 (d0 : Dev nD) : Nat :=
  let c0_i32_86 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_85 : BitVec 32 := 1#32
  let v104 : BitVec 32 := Scalar.muli v13 c1_i32_85
  let v105 : BitVec 32 := Scalar.addi c0_i32_86 v104
  v105.toNat
def k0_dev8 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_90 : BitVec 32 := 1#32
  let v111 : BitVec 32 := Scalar.muli v13 c1_i32_90
  let v112 : BitVec 32 := Scalar.addi c0_i32_91 v111
  v112.toNat
def k0_dev9 (d0 : Dev nD) : Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_104 : BitVec 32 := 1#32
  let v126 : BitVec 32 := Scalar.muli v13 c1_i32_104
  let v127 : BitVec 32 := Scalar.addi c0_i32_105 v126
  v127.toNat
def k0_dev10 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_117 : BitVec 32 := 1#32
  let v141 : BitVec 32 := Scalar.muli v24 c1_i32_117
  let v142 : BitVec 32 := Scalar.addi c0_i32_118 v141
  v142.toNat
def k0_dev11 (d0 : Dev nD) : Nat :=
  let c0_i32_138 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_137 : BitVec 32 := 1#32
  let v161 : BitVec 32 := Scalar.muli v24 c1_i32_137
  let v162 : BitVec 32 := Scalar.addi c0_i32_138 v161
  v162.toNat
def k0_dev12 (d0 : Dev nD) : Nat :=
  let c0_i32_154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_153 : BitVec 32 := 1#32
  let v179 : BitVec 32 := Scalar.muli v13 c1_i32_153
  let v180 : BitVec 32 := Scalar.addi c0_i32_154 v179
  v180.toNat
def k0_off2 (d0 : Dev nD) (c1_i32_6 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_167 : BitVec 32 := 1024#32
  let v196 : BitVec 32 := Scalar.muli v24 c1024_i32_167
  let c0_i32_169 : BitVec 32 := 0#32
  ![v196.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_184 : BitVec 32 := 1024#32
  let v212 : BitVec 32 := Scalar.muli v13 c1024_i32_184
  let c256_i32_186 : BitVec 32 := 256#32
  ![v212.toNat, 256]
def k0_dev13 (d0 : Dev nD) : Nat :=
  let c0_i32_195 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_194 : BitVec 32 := 1#32
  let v221 : BitVec 32 := Scalar.muli v24 c1_i32_194
  let v222 : BitVec 32 := Scalar.addi c0_i32_195 v221
  v222.toNat
def k0_dev14 (d0 : Dev nD) : Nat :=
  let c0_i32_202 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_201 : BitVec 32 := 1#32
  let v231 : BitVec 32 := Scalar.muli v13 c1_i32_201
  let v232 : BitVec 32 := Scalar.addi c0_i32_202 v231
  v232.toNat
def k0_dev15 (d0 : Dev nD) : Nat :=
  let c0_i32_220 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_219 : BitVec 32 := 1#32
  let v250 : BitVec 32 := Scalar.muli v13 c1_i32_219
  let v251 : BitVec 32 := Scalar.addi c0_i32_220 v250
  v251.toNat
def k0_dev16 (d0 : Dev nD) : Nat :=
  let c0_i32_242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_241 : BitVec 32 := 1#32
  let v271 : BitVec 32 := Scalar.muli v24 c1_i32_241
  let v272 : BitVec 32 := Scalar.addi c0_i32_242 v271
  v272.toNat
def k0_off4 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1024_i32_266 : BitVec 32 := 1024#32
  let v301 : BitVec 32 := Scalar.muli v35 c1024_i32_266
  let c256_i32_268 : BitVec 32 := 256#32
  ![v301.toNat, 256]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_298 : BitVec 32 := 1024#32
  let v332 : BitVec 32 := Scalar.muli v13 c1024_i32_298
  let c0_i32_300 : BitVec 32 := 0#32
  ![v332.toNat, 0]
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .bf16⟩
  | .hbm, ⟨2, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Held.lean ====
/-
# `Held`: a view of a buffer held at a stated value

A program's steps speak of the elements a view covers, not of the whole buffer behind it. `held c v q x` says that
thread `c` holds the elements of view `v` at share `q`, and that read through `v` they are the block `x`. The steps a
kernel takes — a load, a store, a local copy — are then stated on blocks: a load returns the block, a store or a copy
replaces it.
-/
module

public import Idealize.ShloMosaic.Lib.Pipeline.Launch
public import Idealize.ShloMosaic.Lib.Transfers
public import Idealize.ShloMosaic.Lib.Tactic

@[expose] public section

noncomputable section

namespace Cert.Held

open Idealize.ShloMosaic
open Idealize.SL Idealize.SL.RA Idealize.SL.BI
open scoped Idealize.SL.BI
open PCS URA
open Idealize.SL.BI.BIBase Idealize.SL.BI.Laws Idealize.SL.ProofMode Idealize.SL.Sem

variable {nD : Nat} {τ : Topo} {sig : RefSig} {Ix : Type} [DecidableEq Ix] {Val : EltTy → Type} [hne : ∀ e, Nonempty (Val e)]
variable {Name : Type} [DecidableEq Name] {U : Type} [URA U] {Lvl : Type}
variable {sp sp' : Space} {s : Shape} {e : EltTy}

local notation "𝕄" => MT nD τ sig Ix Val Name U Lvl

/-- The contents of a view's buffer that show the block `x` through the view, anything elsewhere. -/
def fill (c : Thread nD τ) (v : View sig c.2.kind sp s e) (x : s.Idx → Val e) : Buf Val (v.loc c) :=
  v.write Val (fun _ => Classical.choice (hne _)) x Finset.univ

/-- Thread `c` holds the elements of view `v` at share `q`, and through `v` they read `x`. -/
def held (c : Thread nD τ) (v : View sig c.2.kind sp s e) (q : PosShare TreeShare) (x : s.Idx → Val e) : sProp 𝕄 :=
  v.loc c ↦[v.set]{q} fill c v x

instance held_storable (c : Thread nD τ) (v : View sig c.2.kind sp s e) (q : PosShare TreeShare) (x : s.Idx → Val e) :
    BI.Storable (upEmb : UEmb _ 𝕄) (held c v q x : sProp 𝕄) := by unfold held; infer_instance

section
variable (c : Thread nD τ) (v : View sig c.2.kind sp s e) (q : PosShare TreeShare)

/-- A view's elements at any contents are the view held at what it reads of them. -/
theorem held_eq (f : Buf Val (v.loc c)) : (v.loc c ↦[v.set]{q} f : sProp 𝕄) = held c v q (v.read Val f) := by
  unfold held fill
  refine pointsTo_congr fun i hi => ?_
  obtain ⟨x, -, rfl⟩ := Finset.mem_map.mp hi
  rw [View.write_emb_of_mem _ _ (Finset.mem_univ x), View.read_apply, cast_cast, cast_eq]

/-- The elements of a view just written with `x` are the view held at `x`. -/
theorem held_write (f : Buf Val (v.loc c)) (x : s.Idx → Val e) :
    (v.loc c ↦[v.set]{q} (v.write Val f x Finset.univ) : sProp 𝕄) = held c v q x := by
  rw [held_eq, View.read_write_univ]

/-- What the filled contents read through the view. -/
theorem read_fill (x : s.Idx → Val e) : v.read Val (fill c v x) = x := View.read_write_univ _ _

/-- A share of a held view, split in two. -/
theorem held_share {q₁ q₂ : PosShare TreeShare} (h : q ∈ q₁ ·? q₂) (x : s.Idx → Val e) :
    (held c v q x : sProp 𝕄) ⊣⊢ iprop(held c v q₁ x ∗ held c v q₂ x) := by
  unfold held; exact pointsTo_share h

/-- A view held, as two rectangles of it that share no element and cover it. -/
theorem held_split (r₁ r₂ : Rect s) (hd : Disjoint r₁.set r₂.set) (hc : r₁.set ∪ r₂.set = Finset.univ) (x : s.Idx → Val e) :
    (held c v q x : sProp 𝕄) ⊣⊢ iprop(held c (v.slice r₁) q (fun i => x (r₁.emb i)) ∗ held c (v.slice r₂) q (fun i => x (r₂.emb i))) := by
  have hset : v.set = (v.slice r₁).set ∪ (v.slice r₂).set := by
    rw [View.set_slice, View.set_slice, ← Finset.map_union, hc]; rfl
  have hdis : Disjoint (v.slice r₁).set (v.slice r₂).set := by
    rw [View.set_slice, View.set_slice, Finset.disjoint_map]; exact hd
  have h₁ : (v.slice r₁).read Val (fill c v x) = fun i => x (r₁.emb i) :=
    funext fun i => congrFun (read_fill c v x) (r₁.emb i)
  have h₂ : (v.slice r₂).read Val (fill c v x) = fun i => x (r₂.emb i) :=
    funext fun i => congrFun (read_fill c v x) (r₂.emb i)
  rw [← h₁, ← h₂, ← held_eq c (v.slice r₁), ← held_eq c (v.slice r₂)]
  unfold held
  rw [hset]
  exact pointsTo_union hdis

/-- Two rectangles of a view held at any blocks, joined: the view held at some block. -/
theorem held_join (r₁ r₂ : Rect s) (hd : Disjoint r₁.set r₂.set) (hc : r₁.set ∪ r₂.set = Finset.univ)
    (x₁ : r₁.shape.Idx → Val e) (x₂ : r₂.shape.Idx → Val e) :
    iprop(held c (v.slice r₁) q x₁ ∗ held c (v.slice r₂) q x₂) ⊢ (iprop(∃ x, held c v q x) : sProp 𝕄) := by
  classical
  have hset : v.set = (v.slice r₁).set ∪ (v.slice r₂).set := by
    rw [View.set_slice, View.set_slice, ← Finset.map_union, hc]; rfl
  have hdis : Disjoint (v.slice r₁).set (v.slice r₂).set := by
    rw [View.set_slice, View.set_slice, Finset.disjoint_map]; exact hd
  unfold held
  iintro H
  ihave H := (pointsTo_join hdis) $$ H
  iexists v.read Val ((v.slice r₂).set.piecewise (fill c (v.slice r₂) x₂) (fill c (v.slice r₁) x₁))
  ihave H := (Entails.of_eq (congrArg (fun S => (v.loc c ↦[S]{q} _ : sProp 𝕄)) hset.symm)) $$ H
  ihave H := (Entails.of_eq (held_eq c v q _)) $$ H
  unfold held
  iexact H

end

/-- A whole buffer held at contents `x` is its points-to. -/
theorem held_whole (c : Thread nD τ) (b : Ref sig c.2.kind) (q : PosShare TreeShare) (x : b.ty.Contents Val) :
    (held c (View.whole b) q x : sProp 𝕄) = (c.loc b ↦{q} x) := by
  have h := (held_eq (Ix := Ix) (Name := Name) (U := U) (Lvl := Lvl) c (View.whole b) q x).symm
  rw [View.read_whole, View.set_whole] at h
  exact h

/-- The whole of a view as a rectangle of it is held as the view itself. -/
theorem held_full (c : Thread nD τ) (v : View sig c.2.kind sp s e) (q : PosShare TreeShare) {off : Fin s.rank → Nat} (h0 : off = fun _ => 0)
    (inb : ∀ a, off a + s.size a ≤ s.size a) (x : s.Idx → Val e) :
    (held c (v.slice (Rect.unit off s.size inb)) q x : sProp 𝕄) = held c v q x := by
  subst h0
  have hx : (v.slice (Rect.whole s)).read Val (fill c v x) = x := funext fun i => by
    refine (congrFun (read_fill c v x) ((Rect.whole s).emb i)).trans ?_
    rw [Rect.emb_whole_apply]
  have hset : (v.slice (Rect.whole s)).set = v.set := by
    rw [View.set_slice]
    refine congrArg (Finset.map v.emb) ?_
    rw [← Rect.map_emb_univ]
    exact Finset.eq_univ_iff_forall.mpr fun i => Finset.mem_map.mpr ⟨i, Finset.mem_univ _, Rect.emb_whole_apply s i⟩
  have h := held_eq (Ix := Ix) (Name := Name) (U := U) (Lvl := Lvl) c (v.slice (Rect.whole s)) q (fill c v x)
  rw [hx, hset] at h
  exact h.symm

/-! ## Steps -/

section Steps
variable [Preorder Lvl] {Λ : Labels} {defs : Defs nD τ sig Val Λ} (𝒱 : Variants) (c : Thread nD τ) (bd : Option 𝒱.V)
variable {α : Type} {Q : α → sProp (MT nD τ sig Ix Val Name U Lvl)}

/-- A load of a rectangle of a memref, the rectangle held at `x` at any share: it returns `x`. -/
theorem wp_ld {cs : CoreSpace} {m : Memref sig c.2.kind cs s e} {r : Rect s} {hl : m.view.LoadsAt r}
    {k : (r.shape.Idx → Val e) → Prog (TpuEff nD τ sig Val Λ c.2) α} {q : PosShare TreeShare} {x : r.shape.Idx → Val e} :
    (held c (m.access r) q x)
      ⊢ iprop((held c (m.access r) q x -∗ wp frame (wpE defs 𝒱 c bd) Set.univ (k x) Q)
        -∗ wp frame (wpE defs 𝒱 c bd) Set.univ (.op (.load m r hl) k) Q) := by
  unfold held
  have h := wp_load_rect (Γ := []) (defs := defs) (hl := hl) (k := k) (Q := Q) (q := q) (f := fill c (m.access r) x) 𝒱 c bd Set.univ (Finset.Subset.refl _)
  rw [read_fill] at h
  exact h

/-- A load of the whole of a memref held at `x`: it returns `x`. -/
theorem wp_ld_full {cs : CoreSpace} {m : Memref sig c.2.kind cs s e} {off : Fin s.rank → Nat} (h0 : off = fun _ => 0)
    {inb : ∀ a, off a + s.size a ≤ s.size a} {hl : m.view.LoadsAt (Rect.unit off s.size inb)}
    {k : (s.Idx → Val e) → Prog (TpuEff nD τ sig Val Λ c.2) α} {q : PosShare TreeShare} {x : s.Idx → Val e} :
    (held c m.view q x)
      ⊢ iprop((held c m.view q x -∗ wp frame (wpE defs 𝒱 c bd) Set.univ (k x) Q)
        -∗ wp frame (wpE defs 𝒱 c bd) Set.univ (.op (.load m (Rect.unit off s.size inb).toLoadRect hl) k) Q) := by
  have h := wp_ld (defs := defs) (hl := hl) (k := k) (Q := Q) (q := q) (x := x) 𝒱 c bd
  rw [show held c (m.access (Rect.unit off s.size inb)) q x = held c m.view q x from held_full c m.view q h0 inb x] at h
  exact h

/-- An unmasked store of `w` through a rectangle of a memref, the rectangle held: it is then held at `w`. -/
theorem wp_st {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {y : r.shape.Idx → Val e} :
    (held c (m.access r) fullShare y)
      ⊢ iprop((held c (m.access r) fullShare w -∗ wp frame (wpE defs 𝒱 c bd) Set.univ (k ⟨⟩) Q)
        -∗ wp frame (wpE defs 𝒱 c bd) Set.univ (.op (.store m r w Finset.univ hx hm) k) Q) := by
  rw [← held_write c (m.access r) fullShare (fill c (m.access r) y) w]
  exact wp_store (Γ := []) (defs := defs) (hx := hx) (hm := hm) (k := k) (Q := Q) 𝒱 c bd Set.univ (Finset.Subset.refl _)

/-- An unmasked store of `w` through the whole of a memref held: it is then held at `w`. -/
theorem wp_st_full {cs : CoreSpace} {m : Memref sig c.2.kind cs s e} {off : Fin s.rank → Nat} (h0 : off = fun _ => 0)
    {inb : ∀ a, off a + s.size a ≤ s.size a} {w : s.Idx → Val e}
    {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ c.2) α} {y : s.Idx → Val e} :
    (held c m.view fullShare y)
      ⊢ iprop((held c m.view fullShare w -∗ wp frame (wpE defs 𝒱 c bd) Set.univ (k ⟨⟩) Q)
        -∗ wp frame (wpE defs 𝒱 c bd) Set.univ (.op (.store m (Rect.unit off s.size inb) w Finset.univ hx hm) k) Q) := by
  have h := wp_st (defs := defs) (hx := hx) (hm := hm) (k := k) (Q := Q) (y := y) (w := w) 𝒱 c bd
  rw [show held c (m.access (Rect.unit off s.size inb)) fullShare y = held c m.view fullShare y from held_full c m.view fullShare h0 inb y,
    show held c (m.access (Rect.unit off s.size inb)) fullShare w = held c m.view fullShare w from held_full c m.view fullShare h0 inb w] at h
  exact h

variable (EC : UEmb Counters (MT nD τ sig Ix Val Name U Lvl))

/-- A local copy started: the source held at `x`, the destination held, and the completion counter at zero become the
    copy in flight, which is to hand back the destination held at `x` and the source. -/
theorem wp_cp [Infinite Name] [hEC : EC.LandsIn (upEmb : UEmb _ 𝕄)] {src : Memref sig c.2.kind sp s e} {dst : Memref sig c.2.kind sp' s e} {sm : DmaSem sig}
    {hsrc : src.view.WordExact} {hdst : dst.view.WordExact} {hsem : DmaTarget.Typed (nD := nD) sp (.dma sm) (.here dst)}
    {k : PUnit → Prog (TpuEff nD τ sig Val Λ c.2) α} {q : PosShare TreeShare} {x y : s.Idx → Val e}
    (ι : Ix) (hN0 : 0 < s.numel) :
    iprop(held c src.view q x ∗ held c dst.view fullShare y ∗ semVal (c, .dma sm) 0)
      ⊢ iprop((Transfers.Flight EC c (.dma sm) ι dst.view.dmaCredit iprop(held c dst.view fullShare x ∗ held c src.view q x)
              -∗ wp frame (wpE defs 𝒱 c bd) Set.univ (k ⟨⟩) Q)
          -∗ wp frame (wpE defs 𝒱 c bd) Set.univ (.op (.enqueueDma src (.here dst) (.dma sm) hsrc hdst hsem) k) Q) := by
  have h := Transfers.wp_dmaLocal (defs := defs) (src := src) (via := ReadAs.same) (dst := dst) (sm := .dma sm) (hsrc := hsrc) (hdst := hdst) (hsem := hsem)
    (k := k) (Q := Q) (q := q) (fs := fill c src.view x) (fd := fill c dst.view y) (Sd := dst.view.set)
    EC 𝒱 c bd ι dst.view.dmaCredit rfl (View.dmaCredit_pos _ hN0) (Finset.Subset.refl _)
  rw [show (ReadAs.same : ReadAs Val s e s e).apply (src.view.read Val (fill c src.view x)) = x from read_fill c src.view x, held_write] at h
  exact h

end Steps

end Cert.Held

end
-- ==== Proof.Ring.lean ====
/-
# `Ring`: the four devices' exchange, as a table

Each device sends fourteen blocks to its neighbours, seven to the right and seven to the left, each on a send and a
receive semaphore of its own, and each exactly once. This module is that table — for each transfer: the block's shape,
where it is read and where it lands, which neighbour it goes to, at what share its source is read, its place in the
order the device starts its transfers, and what the block contains — and the schedule it makes: who may credit which
semaphore, and what is handed over with the credit.

Before anything is sent, each device signals both neighbours' barrier semaphore and waits for two units of its own. The
signal to the left hands over the landing buffers the left neighbour writes, the signal to the right those the right
neighbour writes.
-/
module

public import proofs.«01_k».proof.Proof.Held
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Kit

@[expose] public section

noncomputable section

namespace Cert.Ring

open Cert.KernelIdeal Cert.KernelIdeal.Gen Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every element type has a value. -/
instance elt_nonempty (e : EltTy) : Nonempty (Elt F e) := by
  cases e <;> first | exact ⟨(0 : BitVec _)⟩ | exact ⟨FloatOps.ofBits _ 0⟩

/-! ## The resource algebra: the pipeline's, the ring's rounds, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the ring's rounds live. -/
def EB : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
omit [FloatOps F] in
instance EB_landsIn : (EB : Emb UB 𝕄).LandsIn (upEmb : UEmb _ 𝕄) := by unfold EB; infer_instance

/-! ## The devices -/

/-- The left and right neighbours on the ring of four. -/
def lft (c : Dev nD) : Dev nD := ⟨(c.val + 3) % 4, Nat.mod_lt _ (by decide)⟩
def rgt (c : Dev nD) : Dev nD := ⟨(c.val + 1) % 4, Nat.mod_lt _ (by decide)⟩

theorem lft_rgt (c : Dev nD) : lft (rgt c) = c := by revert c; decide
theorem rgt_lft (c : Dev nD) : rgt (lft c) = c := by revert c; decide
theorem lft_lft (c : Dev nD) : lft (lft c) = rgt (rgt c) := by revert c; decide
theorem rgt_ne_lft (c : Dev nD) : rgt c ≠ lft c := by revert c; decide

/-! ## The memrefs -/

abbrev xM : Memref sig .tc .hbm S1024x4096 .f32 := Memref.whole main_arg0
abbrev oM : Memref sig .tc .hbm S4096x512 .f32 := Memref.whole main_v1
abbrev wM : Memref sig .tc .vmem S4096x512 .bf16 := Memref.whole cc0_stg0_0
abbrev xfM : Memref sig .tc .vmem S1024x4096 .f32 := Memref.whole cc0_scratch0
abbrev xbM : Memref sig .tc .vmem S1024x4096 .bf16 := Memref.whole cc0_scratch1
abbrev wlM : Memref sig .tc .vmem S4096x512 .bf16 := Memref.whole cc0_scratch2
abbrev wrM : Memref sig .tc .vmem S4096x512 .bf16 := Memref.whole cc0_scratch3
abbrev woaM : Memref sig .tc .vmem S4096x256 .bf16 := Memref.whole cc0_scratch4
abbrev wobM : Memref sig .tc .vmem S4096x256 .bf16 := Memref.whole cc0_scratch5
abbrev blM : Memref sig .tc .vmem S1024x512 .bf16 := Memref.whole cc0_scratch6
abbrev brM : Memref sig .tc .vmem S1024x512 .bf16 := Memref.whole cc0_scratch7
abbrev boaM : Memref sig .tc .vmem S1024x256 .bf16 := Memref.whole cc0_scratch8
abbrev bobM : Memref sig .tc .vmem S1024x256 .bf16 := Memref.whole cc0_scratch9
abbrev faM : Memref sig .tc .vmem S1024x256 .bf16 := Memref.whole cc0_scratch10
abbrev fbM : Memref sig .tc .vmem S1024x256 .bf16 := Memref.whole cc0_scratch11
abbrev ilM : Memref sig .tc .vmem S1024x512 .bf16 := Memref.whole cc0_scratch12
abbrev irM : Memref sig .tc .vmem S1024x512 .bf16 := Memref.whole cc0_scratch13
abbrev ioaM : Memref sig .tc .vmem S1024x256 .bf16 := Memref.whole cc0_scratch14
abbrev iobM : Memref sig .tc .vmem S1024x256 .bf16 := Memref.whole cc0_scratch15
abbrev smM : Memref sig .tc .vmem S1024x512 .f32 := Memref.whole cc0_scratch16
abbrev slM : Memref sig .tc .vmem S1024x512 .f32 := Memref.whole cc0_scratch17
abbrev srM : Memref sig .tc .vmem S1024x512 .f32 := Memref.whole cc0_scratch18
abbrev soaM : Memref sig .tc .vmem S1024x256 .f32 := Memref.whole cc0_scratch19
abbrev sobM : Memref sig .tc .vmem S1024x256 .f32 := Memref.whole cc0_scratch20

/-- The two column halves of a 4096×512 and of a 1024×512 array. -/
abbrev ka : Rect S4096x512 := Rect.unit (s := S4096x512) ![0, 0] S4096x256.size inb_S4096x512_S4096x256_0_0
abbrev kb : Rect S4096x512 := Rect.unit (s := S4096x512) ![0, 256] S4096x256.size inb_S4096x512_S4096x256_0_256
abbrev ja : Rect S1024x512 := Rect.unit (s := S1024x512) ![0, 0] S1024x256.size inb_S1024x512_S1024x256_0_0
abbrev jb : Rect S1024x512 := Rect.unit (s := S1024x512) ![0, 256] S1024x256.size inb_S1024x512_S1024x256_0_256

/-! ## The transfers -/

/-- The fourteen transfers, in the order of their semaphores. -/
inductive Tr
  | t0 | t1 | t2 | t3 | t4 | t5 | t6 | t7 | t8 | t9 | t10 | t11 | t12 | t13
  deriving DecidableEq

namespace Tr

/-- All of them. -/
def all : List Tr := [t0, t1, t2, t3, t4, t5, t6, t7, t8, t9, t10, t11, t12, t13]

instance : Fintype Tr := ⟨⟨all, by decide⟩, fun t => by cases t <;> decide⟩

/-- The shape of the block moved. -/
abbrev shape : Tr → Shape
  | t0 => S4096x256 | t1 => S4096x256 | t2 => S4096x256 | t3 => S4096x256 | t4 => S4096x256 | t5 => S4096x256
  | t6 => S1024x256 | t7 => S1024x256 | t8 => S1024x256 | t9 => S1024x256
  | t10 => S1024x256 | t11 => S1024x256 | t12 => S1024x256 | t13 => S1024x256

/-- Where the block is read, on the sender. -/
abbrev src : (t : Tr) → Memref sig .tc .vmem t.shape .bf16
  | t0 => wM.slice ka (fun _ => rfl) | t1 => wM.slice kb (fun _ => rfl)
  | t2 => wM.slice kb (fun _ => rfl) | t3 => wM.slice ka (fun _ => rfl)
  | t4 => wlM.slice ka (fun _ => rfl) | t5 => wrM.slice kb (fun _ => rfl)
  | t6 => blM.slice ja (fun _ => rfl) | t7 => blM.slice jb (fun _ => rfl)
  | t8 => brM.slice jb (fun _ => rfl) | t9 => brM.slice ja (fun _ => rfl)
  | t10 => boaM | t11 => bobM | t12 => faM | t13 => fbM

/-- Where it lands, on the receiver. -/
abbrev dst : (t : Tr) → Memref sig .tc .vmem t.shape .bf16
  | t0 => wlM.slice ka (fun _ => rfl) | t1 => wlM.slice kb (fun _ => rfl)
  | t2 => wrM.slice kb (fun _ => rfl) | t3 => wrM.slice ka (fun _ => rfl)
  | t4 => woaM | t5 => wobM
  | t6 => irM.slice ja (fun _ => rfl) | t7 => irM.slice jb (fun _ => rfl)
  | t8 => ilM.slice jb (fun _ => rfl) | t9 => ilM.slice ja (fun _ => rfl)
  | t10 => faM | t11 => fbM | t12 => ioaM | t13 => iobM

/-- The sender's and the receiver's semaphore. -/
abbrev sS : Tr → DmaSem sig
  | t0 => ((cc0_scratch21.slice (Rect.unit (s := S14) ![0] S1.size inb_S14_S1_0)).squeeze S_ squeezes_S1_S_).sem
  | t1 => ((cc0_scratch21.slice (Rect.unit (s := S14) ![1] S1.size inb_S14_S1_1)).squeeze S_ squeezes_S1_S_).sem
  | t2 => ((cc0_scratch21.slice (Rect.unit (s := S14) ![2] S1.size inb_S14_S1_2)).squeeze S_ squeezes_S1_S_).sem
  | t3 => ((cc0_scratch21.slice (Rect.unit (s := S14) ![3] S1.size inb_S14_S1_3)).squeeze S_ squeezes_S1_S_).sem
  | t4 => ((cc0_scratch21.slice (Rect.unit (s := S14) ![4] S1.size inb_S14_S1_4)).squeeze S_ squeezes_S1_S_).sem
  | t5 => ((cc0_scratch21.slice (Rect.unit (s := S14) ![5] S1.size inb_S14_S1_5)).squeeze S_ squeezes_S1_S_).sem
  | t6 => ((cc0_scratch21.slice (Rect.unit (s := S14) ![6] S1.size inb_S14_S1_6)).squeeze S_ squeezes_S1_S_).sem
  | t7 => ((cc0_scratch21.slice (Rect.unit (s := S14) ![7] S1.size inb_S14_S1_7)).squeeze S_ squeezes_S1_S_).sem
  | t8 => ((cc0_scratch21.slice (Rect.unit (s := S14) ![8] S1.size inb_S14_S1_8)).squeeze S_ squeezes_S1_S_).sem
  | t9 => ((cc0_scratch21.slice (Rect.unit (s := S14) ![9] S1.size inb_S14_S1_9)).squeeze S_ squeezes_S1_S_).sem
  | t10 => ((cc0_scratch21.slice (Rect.unit (s := S14) ![10] S1.size inb_S14_S1_10)).squeeze S_ squeezes_S1_S_).sem
  | t11 => ((cc0_scratch21.slice (Rect.unit (s := S14) ![11] S1.size inb_S14_S1_11)).squeeze S_ squeezes_S1_S_).sem
  | t12 => ((cc0_scratch21.slice (Rect.unit (s := S14) ![12] S1.size inb_S14_S1_12)).squeeze S_ squeezes_S1_S_).sem
  | t13 => ((cc0_scratch21.slice (Rect.unit (s := S14) ![13] S1.size inb_S14_S1_13)).squeeze S_ squeezes_S1_S_).sem
abbrev rS : Tr → DmaSem sig
  | t0 => ((cc0_scratch22.slice (Rect.unit (s := S14) ![0] S1.size inb_S14_S1_0)).squeeze S_ squeezes_S1_S_).sem
  | t1 => ((cc0_scratch22.slice (Rect.unit (s := S14) ![1] S1.size inb_S14_S1_1)).squeeze S_ squeezes_S1_S_).sem
  | t2 => ((cc0_scratch22.slice (Rect.unit (s := S14) ![2] S1.size inb_S14_S1_2)).squeeze S_ squeezes_S1_S_).sem
  | t3 => ((cc0_scratch22.slice (Rect.unit (s := S14) ![3] S1.size inb_S14_S1_3)).squeeze S_ squeezes_S1_S_).sem
  | t4 => ((cc0_scratch22.slice (Rect.unit (s := S14) ![4] S1.size inb_S14_S1_4)).squeeze S_ squeezes_S1_S_).sem
  | t5 => ((cc0_scratch22.slice (Rect.unit (s := S14) ![5] S1.size inb_S14_S1_5)).squeeze S_ squeezes_S1_S_).sem
  | t6 => ((cc0_scratch22.slice (Rect.unit (s := S14) ![6] S1.size inb_S14_S1_6)).squeeze S_ squeezes_S1_S_).sem
  | t7 => ((cc0_scratch22.slice (Rect.unit (s := S14) ![7] S1.size inb_S14_S1_7)).squeeze S_ squeezes_S1_S_).sem
  | t8 => ((cc0_scratch22.slice (Rect.unit (s := S14) ![8] S1.size inb_S14_S1_8)).squeeze S_ squeezes_S1_S_).sem
  | t9 => ((cc0_scratch22.slice (Rect.unit (s := S14) ![9] S1.size inb_S14_S1_9)).squeeze S_ squeezes_S1_S_).sem
  | t10 => ((cc0_scratch22.slice (Rect.unit (s := S14) ![10] S1.size inb_S14_S1_10)).squeeze S_ squeezes_S1_S_).sem
  | t11 => ((cc0_scratch22.slice (Rect.unit (s := S14) ![11] S1.size inb_S14_S1_11)).squeeze S_ squeezes_S1_S_).sem
  | t12 => ((cc0_scratch22.slice (Rect.unit (s := S14) ![12] S1.size inb_S14_S1_12)).squeeze S_ squeezes_S1_S_).sem
  | t13 => ((cc0_scratch22.slice (Rect.unit (s := S14) ![13] S1.size inb_S14_S1_13)).squeeze S_ squeezes_S1_S_).sem

/-- Whether the transfer goes to the right neighbour. -/
abbrev right : Tr → Bool
  | t0 => true | t1 => true | t2 => false | t3 => false | t4 => true | t5 => false | t6 => false | t7 => false
  | t8 => true | t9 => true | t10 => true | t11 => false | t12 => true | t13 => false

/-- Its receiver, from its sender; its sender, from its receiver. -/
abbrev tgt (t : Tr) (c : Dev nD) : Dev nD := match t.right with | true => rgt c | false => lft c
abbrev frm (t : Tr) (c : Dev nD) : Dev nD := match t.right with | true => lft c | false => rgt c

/-- The share its source is read at: a block read by the device's own product as well, or sent twice, in halves. -/
abbrev share : Tr → PosShare TreeShare
  | t0 => fullShare.left | t1 => fullShare.right | t2 => fullShare.left | t3 => fullShare.right
  | t4 => fullShare.left | t5 => fullShare.left
  | t6 => fullShare | t7 => fullShare | t8 => fullShare | t9 => fullShare
  | t10 => fullShare | t11 => fullShare | t12 => fullShare | t13 => fullShare

/-- Its place in the order a device starts its transfers. -/
abbrev pos : Tr → ℕ
  | t0 => 0 | t2 => 1 | t4 => 2 | t1 => 3 | t5 => 4 | t3 => 5 | t6 => 6 | t8 => 7 | t10 => 8 | t11 => 9
  | t12 => 10 | t13 => 11 | t7 => 12 | t9 => 13

/-- The credit a transfer gives. -/
abbrev amt (t : Tr) : ℕ := t.dst.view.dmaCredit

theorem frm_tgt (t : Tr) (c : Dev nD) : t.frm (t.tgt c) = c := by revert t c; decide
theorem tgt_frm (t : Tr) (c : Dev nD) : t.tgt (t.frm c) = c := by revert t c; decide
theorem pos_inj : ∀ t t' : Tr, t.pos = t'.pos → t = t' := by decide
theorem numel_pos (t : Tr) : 0 < t.shape.numel := by cases t <;> decide
theorem amt_pos (t : Tr) : 0 < t.amt := View.dmaCredit_pos _ t.numel_pos

end Tr

/-! ## What the blocks contain -/

/-- A block of rows times a block of columns, rounded: what a device sends back. -/
abbrev prod (x : S1024x4096.Idx → Elt F .bf16) (w : S4096x256.Idx → Elt F .bf16) : S1024x256.Idx → Elt F .bf16 := k0_pay3 x w

section Data
variable (x : Dev nD → S1024x4096.Idx → Elt F .f32) (w : Dev nD → S4096x512.Idx → Elt F .bf16)

/-- A device's rows, rounded; its columns' two halves. -/
abbrev xb (c : Dev nD) : S1024x4096.Idx → Elt F .bf16 := k0_pay1 (x c)
abbrev wa (c : Dev nD) : S4096x256.Idx → Elt F .bf16 := fun i => w c (ka.emb i)
abbrev wb (c : Dev nD) : S4096x256.Idx → Elt F .bf16 := fun i => w c (kb.emb i)

/-- What device `c` sends in transfer `t`: its own columns, a neighbour's passed on, or a product of its rows with the
    columns of the device it is meant for — or such a product passed on. -/
abbrev Tr.val (c : Dev nD) : (t : Tr) → t.shape.Idx → Elt F .bf16
  | .t0 => wa w c | .t1 => wb w c | .t2 => wb w c | .t3 => wa w c
  | .t4 => wa w (lft c) | .t5 => wb w (rgt c)
  | .t6 => prod (xb x c) (wa w (lft c)) | .t7 => prod (xb x c) (wb w (lft c))
  | .t8 => prod (xb x c) (wb w (rgt c)) | .t9 => prod (xb x c) (wa w (rgt c))
  | .t10 => prod (xb x c) (wa w (lft (lft c))) | .t11 => prod (xb x c) (wb w (rgt (rgt c)))
  | .t12 => prod (xb x (lft c)) (wa w (lft (lft (lft c)))) | .t13 => prod (xb x (rgt c)) (wb w (rgt (rgt (rgt c))))

/-- The landing buffer of `c`'s transfer `t`, on its receiver, at whatever it holds. -/
def free (t : Tr) (c : Dev nD) : sProp 𝕄 := iprop(∃ y, held (t.tgt c : Thread nD τ) t.dst.view fullShare y)
/-- The landing buffers of `c`'s seven transfers to the right, and of its seven to the left. -/
def freeR (c : Dev nD) : sProp 𝕄 :=
  iprop(free .t0 c ∗ free .t1 c ∗ free .t4 c ∗ free .t8 c ∗ free .t9 c ∗ free .t10 c ∗ free .t12 c)
def freeL (c : Dev nD) : sProp 𝕄 :=
  iprop(free .t2 c ∗ free .t3 c ∗ free .t5 c ∗ free .t6 c ∗ free .t7 c ∗ free .t11 c ∗ free .t13 c)

/-- What comes back to the sender with the transfer gone: its source. -/
def gone (t : Tr) (c : Dev nD) : sProp 𝕄 := held (c : Thread nD τ) t.src.view t.share (t.val x w c)
/-- What the receiver gets: the block landed. -/
def landed (t : Tr) (c : Dev nD) : sProp 𝕄 := held (c : Thread nD τ) t.dst.view fullShare (t.val x w (t.frm c))

instance free_storable (t : Tr) (c : Dev nD) : BI.Storable (upEmb : UEmb _ 𝕄) (free (F := F) t c) := by unfold free; infer_instance
instance freeR_storable (c : Dev nD) : BI.Storable (upEmb : UEmb _ 𝕄) (freeR (F := F) c) := by unfold freeR; infer_instance
instance freeL_storable (c : Dev nD) : BI.Storable (upEmb : UEmb _ 𝕄) (freeL (F := F) c) := by unfold freeL; infer_instance
instance gone_storable (t : Tr) (c : Dev nD) : BI.Storable (upEmb : UEmb _ 𝕄) (gone x w t c) := by unfold gone; infer_instance
instance landed_storable (t : Tr) (c : Dev nD) : BI.Storable (upEmb : UEmb _ 𝕄) (landed x w t c) := by unfold landed; infer_instance

/-! ## The semaphores -/

/-- The barrier semaphore the devices meet on. -/
abbrev barS : Sem sig := (SemArray.scalar (sig.barrier 0 rfl) : Sems sig S_).sem

/-- The ring's semaphores of one device: the barrier, and each transfer's two. -/
inductive Role
  | bar | snd (t : Tr) | rcv (t : Tr)
  deriving DecidableEq

/-- All of them. -/
def Role.all : List Role := .bar :: (Tr.all.map .snd ++ Tr.all.map .rcv)

instance : Fintype Role := ⟨⟨Role.all, by decide⟩, fun r => by rcases r with _ | t | t <;> (try cases t) <;> decide⟩

/-- The semaphore of a role. -/
abbrev Role.sem : Role → SemLoc sig
  | bar => .reg barS | snd t => .dma t.sS | rcv t => .dma t.rS

/-- The transfer on a DMA semaphore, by its number. -/
def dmaRole : ℕ → Option Role
  | 1 => some (.snd .t0) | 2 => some (.snd .t1) | 3 => some (.snd .t2) | 4 => some (.snd .t3) | 5 => some (.snd .t4)
  | 6 => some (.snd .t5) | 7 => some (.snd .t6) | 8 => some (.snd .t7) | 9 => some (.snd .t8) | 10 => some (.snd .t9)
  | 11 => some (.snd .t10) | 12 => some (.snd .t11) | 13 => some (.snd .t12) | 14 => some (.snd .t13)
  | 15 => some (.rcv .t0) | 16 => some (.rcv .t1) | 17 => some (.rcv .t2) | 18 => some (.rcv .t3) | 19 => some (.rcv .t4)
  | 20 => some (.rcv .t5) | 21 => some (.rcv .t6) | 22 => some (.rcv .t7) | 23 => some (.rcv .t8) | 24 => some (.rcv .t9)
  | 25 => some (.rcv .t10) | 26 => some (.rcv .t11) | 27 => some (.rcv .t12) | 28 => some (.rcv .t13)
  | _ => none
/-- The role of a semaphore, if it has one. -/
def roleOf : SemLoc sig → Option Role
  | .reg s => if s = barS then some .bar else none
  | .dma q => dmaRole q.val

theorem roleOf_sem (r : Role) : roleOf r.sem = some r := by
  rcases r with _ | t | t
  · show (if (barS : Sem sig) = barS then some Role.bar else none) = _
    exact if_pos rfl
  · cases t <;> rfl
  · cases t <;> rfl

theorem sem_inj : Function.Injective Role.sem := fun r r' h => by
  have h' := congrArg roleOf h
  rw [roleOf_sem, roleOf_sem] at h'
  exact Option.some.inj h'

/-- Device `c`'s semaphore of a role. -/
abbrev cell (r : Role) (c : Dev nD) : GSem nD τ sig := ((c : Thread nD τ), r.sem)

/-! ## The schedule -/

/-- How many units one duty of a role's cell is. -/
abbrev Role.amt : Role → ℕ
  | bar => 1 | snd t => t.amt | rcv t => t.amt
/-- The duties of a role's cell: the barrier's two, one from each neighbour; a transfer's one. -/
abbrev Role.duties : Role → Finset Bool
  | bar => Finset.univ | snd _ => {false} | rcv _ => {false}
/-- What a duty of a role's cell of device `c` hands over: on the barrier, `true` from the right neighbour the landing
    buffers there, `false` from the left neighbour those there; with a transfer gone its source, with one landed its
    block. -/
def Role.pay (r : Role) (c : Dev nD) (d : Bool) : sProp 𝕄 :=
  match r with
  | bar => match d with | true => freeR c | false => freeL c
  | snd t => gone x w t c
  | rcv t => landed x w t c

instance Role.pay_storable (r : Role) (c : Dev nD) (d : Bool) : BI.Storable (upEmb : UEmb _ 𝕄) (r.pay x w c d) := by
  unfold Role.pay; rcases r with _ | t | t
  · cases d <;> dsimp only <;> infer_instance
  · dsimp only; infer_instance
  · dsimp only; infer_instance

/-- One round on each of the ring's cells. -/
def sched : Rounds.Schedule (GSem nD τ sig) Bool 𝕄 where
  duties g r := if r = 0 ∧ g.1.2 = .tc then (match roleOf g.2 with | some ρ => ρ.duties | none => ∅) else ∅
  unitless _ := False
  amount g _ _ := match roleOf g.2 with | some ρ => ρ.amt | none => 1
  payload g _ d := match roleOf g.2 with | some ρ => ρ.pay x w g.1.1 d | none => iprop(emp)
  amount_pos g _ _ _ := by
    rcases roleOf g.2 with _ | ρ
    · exact Nat.one_pos
    · rcases ρ with _ | t | t
      · exact Nat.one_pos
      · exact t.amt_pos
      · exact t.amt_pos

instance sched_storable (g : GSem nD τ sig) (r : ℕ) (d : Bool) : BI.Storable (upEmb : UEmb _ 𝕄) ((sched (F := F) x w).payload g r d) := by
  show BI.Storable upEmb (match roleOf g.2 with | some ρ => ρ.pay x w g.1.1 d | none => iprop(emp))
  rcases roleOf g.2 with _ | ρ <;> dsimp only <;> infer_instance

theorem duties_cell (r : Role) (c : Dev nD) : (sched x w).duties (cell r c) 0 = r.duties := by
  dsimp only [sched]; rw [if_pos ⟨rfl, rfl⟩, roleOf_sem]
theorem duties_later (g : GSem nD τ sig) : ∀ r, 1 ≤ r → (sched x w).duties g r = ∅ :=
  fun r hr => by dsimp only [sched]; rw [if_neg fun h => by omega]
theorem amount_cell (r : Role) (c : Dev nD) (d : Bool) : (sched x w).amount (cell r c) 0 d = r.amt := by
  dsimp only [sched]; rw [roleOf_sem]
theorem payload_cell (r : Role) (c : Dev nD) (d : Bool) : (sched x w).payload (cell r c) 0 d = r.pay x w c d := by
  dsimp only [sched]; rw [roleOf_sem]

theorem expect_bar (c : Dev nD) : (sched x w).expect (cell .bar c) 0 = 2 := by
  unfold Schedule.expect Schedule.amountOf
  rw [duties_cell, Finset.sum_congr rfl fun d _ => amount_cell x w .bar c d]; rfl
theorem expect_snd (t : Tr) (c : Dev nD) : (sched x w).expect (cell (.snd t) c) 0 = t.amt := by
  unfold Schedule.expect Schedule.amountOf; rw [duties_cell, Finset.sum_singleton, amount_cell]
theorem expect_rcv (t : Tr) (c : Dev nD) : (sched x w).expect (cell (.rcv t) c) 0 = t.amt := by
  unfold Schedule.expect Schedule.amountOf; rw [duties_cell, Finset.sum_singleton, amount_cell]

theorem rest_bar (c : Dev nD) :
    bigSep ((sched x w).duties (cell .bar c) 0 \ ∅) (fun d => (sched x w).payload (cell .bar c) 0 d) = iprop(freeL c ∗ freeR c) := by
  rw [Finset.sdiff_empty, duties_cell, bigSep_univ_eq_bigSepL [false, true] (by decide) (by decide), bigSepL_cons_cons, bigSepL_singleton,
    payload_cell, payload_cell]
  rfl
theorem rest_snd (t : Tr) (c : Dev nD) :
    bigSep ((sched x w).duties (cell (.snd t) c) 0 \ ∅) (fun d => (sched x w).payload (cell (.snd t) c) 0 d) = gone x w t c := by
  rw [Finset.sdiff_empty, duties_cell, bigSep_singleton, payload_cell]; rfl
theorem rest_rcv (t : Tr) (c : Dev nD) :
    bigSep ((sched x w).duties (cell (.rcv t) c) 0 \ ∅) (fun d => (sched x w).payload (cell (.rcv t) c) 0 d) = landed x w t c := by
  rw [Finset.sdiff_empty, duties_cell, bigSep_singleton, payload_cell]; rfl

end Data

/-! ## What a device owes, and the levels -/

/-- The transfers from the `p`-th on, in the order they are started. -/
def from_ (p : ℕ) : Finset Tr := Finset.univ.filter fun t => p ≤ t.pos

/-- What device `c` owes with `p` transfers started: each later transfer's credit, on its receiver. -/
def debt (c : Dev nD) (p : ℕ) : CellTallies nD τ sig Unit := ∑ t ∈ from_ p, tallyAt (cell (.rcv t) (t.tgt c)) () t.amt

theorem from_pos (t : Tr) : from_ t.pos = insert t (from_ (t.pos + 1)) := by revert t; decide
theorem not_mem_from (t : Tr) : t ∉ from_ (t.pos + 1) := by revert t; decide

/-- Starting a transfer pays its credit. -/
theorem debt_pos (t : Tr) (c : Dev nD) : debt c t.pos = debt c (t.pos + 1) + tallyAt (cell (.rcv t) (t.tgt c)) () t.amt := by
  unfold debt; rw [from_pos, Finset.sum_insert (not_mem_from t), add_comm]
/-- All started: nothing owed. -/
theorem debt_end (c : Dev nD) : debt c 14 = 0 := by
  unfold debt; rw [show from_ 14 = ∅ by decide, Finset.sum_empty]

/-- What device `c` owes at launch: its transfers' credits, and a unit to each neighbour's barrier. The signal to the
    left is the first, the signal to the right the second. -/
def owed₁ (c : Dev nD) : CellTallies nD τ sig Unit := debt c 0 + tallyAt (cell .bar (rgt c)) () 1
def owed₀ (c : Dev nD) : CellTallies nD τ sig Unit := owed₁ c + tallyAt (cell .bar (lft c)) () 1

/-- The cells that have a level: the devices' own. -/
def L (g : GSem nD τ sig) : Finset Unit := if g.1.2 = .tc then {()} else ∅
/-- The levels: the barrier below every receive semaphore, these in the order of their transfers, all else below. -/
def lv (g : GSem nD τ sig) (_ : Unit) : ℕ :=
  match roleOf g.2 with | some .bar => 1 | some (.rcv t) => t.pos + 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (cell .bar c) () = 1 := by dsimp only [lv]; rw [roleOf_sem]
theorem lv_rcv (t : Tr) (c : Dev nD) : lv (cell (.rcv t) c) () = t.pos + 2 := by dsimp only [lv]; rw [roleOf_sem]
theorem lv_snd (t : Tr) (c : Dev nD) : lv (cell (.snd t) c) () = 0 := by dsimp only [lv]; rw [roleOf_sem]

/-- What is owed with `p` transfers started is on later transfers' receive semaphores. -/
theorem debt_mem {c : Dev nD} {p : ℕ} {g : GSem nD τ sig} {u : Unit} (h : 0 < debt c p g u) :
    ∃ t : Tr, p ≤ t.pos ∧ g = cell (.rcv t) (t.tgt c) := by
  by_contra hn
  refine absurd h (Nat.not_lt.mpr (Nat.le_of_eq ?_))
  unfold debt
  rw [Finset.sum_apply, Finsupp.finset_sum_apply]
  refine Finset.sum_eq_zero fun t ht => ?_
  rw [tallyAt_apply, if_neg]
  exact fun h' => hn ⟨t, (Finset.mem_filter.mp (show t ∈ Finset.univ.filter fun t : Tr => p ≤ t.pos from ht)).2, h'.1⟩

/-- A cell credited by a single tally is its cell. -/
theorem tally_mem {g g' : GSem nD τ sig} {n : ℕ} {u : Unit} (h : 0 < tallyAt g' () n g u) : g = g' := by
  rw [tallyAt_apply] at h
  by_contra hn
  rw [if_neg (fun h' => hn h'.1)] at h
  exact Nat.lt_irrefl 0 h

theorem owed_mem {c : Dev nD} {g : GSem nD τ sig} {u : Unit} (h : 0 < owed₀ c g u) :
    (∃ t : Tr, g = cell (.rcv t) (t.tgt c)) ∨ g = cell .bar (rgt c) ∨ g = cell .bar (lft c) := by
  have h' : 0 < debt c 0 g u + tallyAt (cell .bar (rgt c)) () 1 g u + tallyAt (cell .bar (lft c)) () 1 g u := h
  rcases Nat.add_pos_iff_pos_or_pos.mp h' with h₁ | h₁
  · rcases Nat.add_pos_iff_pos_or_pos.mp h₁ with h₂ | h₂
    · obtain ⟨t, -, ht⟩ := debt_mem h₂
      exact .inl ⟨t, ht⟩
    · exact .inr (.inl (tally_mem h₂))
  · exact .inr (.inr (tally_mem h₁))

/-- A device may wait on any of its semaphores that lies below every transfer it has still to start. -/
theorem mayWait_debt (c : Dev nD) (p : ℕ) (sm : SemLoc sig) (h : lv ((c : Thread nD τ), sm) () < p + 2) :
    (levAts L lv : sProp 𝕄) ⊢ MayWait (c : Thread nD τ) sm () (debt c p) :=
  MayOwe.of_cut (L := L) (lev := lv) (p + 1) (fun q hq => by rw [Finset.mem_singleton.mp hq, L_tc]; exact Finset.mem_singleton_self _)
    (fun g u hg => by obtain ⟨t, -, rfl⟩ := debt_mem hg; exact Finset.mem_singleton_self _)
    (fun q hq => by rw [Finset.mem_singleton.mp hq]; exact Nat.lt_succ_iff.mp h)
    (fun g u hg => by obtain ⟨t, ht, rfl⟩ := debt_mem hg; rw [show u = () from rfl, lv_rcv]; omega)

/-- At launch a device may wait on any semaphore of level 0. -/
theorem mayWait_owed (c : Dev nD) (sm : SemLoc sig) (h : lv ((c : Thread nD τ), sm) () = 0) :
    (levAts L lv : sProp 𝕄) ⊢ MayWait (c : Thread nD τ) sm () (owed₀ c) :=
  MayOwe.of_cut (L := L) (lev := lv) 0 (fun q hq => by rw [Finset.mem_singleton.mp hq, L_tc]; exact Finset.mem_singleton_self _)
    (fun g u hg => by rcases owed_mem hg with ⟨t, rfl⟩ | rfl | rfl <;> exact Finset.mem_singleton_self _)
    (fun q hq => by rw [Finset.mem_singleton.mp hq]; exact Nat.le_of_eq h)
    (fun g u hg => by
      rcases owed_mem hg with ⟨t, rfl⟩ | rfl | rfl
      · rw [show u = () from rfl, lv_rcv]; omega
      · rw [show u = () from rfl, lv_bar]; omega
      · rw [show u = () from rfl, lv_bar]; omega)

end Cert.Ring

end
-- ==== Proof.Steps.lean ====
/-
# `Steps`: the ring's operations, one rule each

Starting a transfer, waiting for one to land or to be gone, the two signals and the wait on the barrier — each stated
once for every transfer of the table, on the blocks the table gives it. A device's debt is counted by how many transfers
it has started.
-/
module

public import proofs.«01_k».proof.Proof.Ring

@[expose] public section

noncomputable section

namespace Cert.Ring

open Cert.KernelIdeal Cert.KernelIdeal.Gen Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (x : Dev nD → S1024x4096.Idx → Elt F .f32) (w : Dev nD → S4096x512.Idx → Elt F .bf16)

/-! ## What every device knows -/

/-- Every ring cell's invariant, under some names, and that each cell's round 0 is reached. -/
def records (K : Dev nD × Role → ℕ) : sProp 𝕄 :=
  bigSep Finset.univ fun cr : Dev nD × Role => iprop(cellInv EB (sched x w) (K cr) (cell cr.2 cr.1) ∗ reached EB (cell cr.2 cr.1) 0)
instance records_persistent (K : Dev nD × Role → ℕ) : BI.Persistent (records x w K) := by unfold records; infer_instance

/-- The records and the levels. -/
def ctx : sProp 𝕄 := iprop((∃ K, records x w K) ∗ levAts L lv)
instance ctx_persistent : BI.Persistent (ctx x w) := by unfold ctx; infer_instance

theorem record_at (K : Dev nD × Role → ℕ) (r : Role) (c : Dev nD) :
    records x w K ⊢ iprop(cellInv EB (sched x w) (K (c, r)) (cell r c) ∗ reached EB (cell r c) 0) :=
  bigSep_elim (Finset.mem_univ (c, r))

/-! ## What a device holds of a transfer -/

/-- Device `c` owes what is left with `p` transfers started. -/
def owe (c : Dev nD) (p : ℕ) : sProp 𝕄 := iprop(∃ W, owes (c : Thread nD τ) (debt c p) W)
/-- Device `c` may start its transfer `t`: the right to credit both semaphores, and its place at its own. -/
def ready (t : Tr) (c : Dev nD) : sProp 𝕄 :=
  iprop(dutyTok EB (cell (.snd t) c) 0 false ∗ dutyTok EB (cell (.rcv t) (t.tgt c)) 0 false ∗ atPos EB (cell (.snd t) c) 0 ∅ 0)
/-- It has started it: it may wait for it to be gone. -/
def going (t : Tr) (c : Dev nD) : sProp 𝕄 := iprop(cred (tallyAt (cell (.snd t) c) () t.amt) ∗ atPos EB (cell (.snd t) c) 0 ∅ 0)
/-- It may wait for transfer `t` to land on it. -/
def due (t : Tr) (c : Dev nD) : sProp 𝕄 := iprop(cred (tallyAt (cell (.rcv t) c) () t.amt) ∗ atPos EB (cell (.rcv t) c) 0 ∅ 0)

/-! ## The rules -/

/-- A transfer started: its source at its block and the landing buffer on the receiver, with the right to start it. -/
theorem wp_start {α : Type} {Q : α → sProp 𝕄} {k : PUnit.{1} → Prog (TpuEff nD τ sig (Elt F) Λ₀ .tc) α}
    (t : Tr) (c : Dev nD) {n : Dev nD} (hn : n = t.tgt c) {p : ℕ} (hp : t.pos = p)
    {hsc : (t.dst : Memref sig (Dev.tc n : Thread nD τ).2.kind .vmem t.shape .bf16).view.ref.isScScratch = false}
    {hsrc : t.src.view.WordExact} {hdst : t.dst.view.WordExact}
    {hsem : DmaTarget.Typed .vmem (.dma t.rS) (.remote (Dev.tc n : Thread nD τ) t.dst (.dma t.sS) hsc)} :
    iprop(ctx x w ∗ gone x w t c ∗ free t c ∗ ready t c ∗ owe c p)
      ⊢ iprop(((going t c ∗ owe c (p + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma t.src (.remote (Dev.tc n : Thread nD τ) t.dst (.dma t.sS) hsc) (.dma t.rS) hsrc hdst hsem) k) Q) := by
  subst hn hp
  unfold ctx gone free ready going owe
  iintro ⟨⟨⟨%K, #HR⟩, -⟩, Hs, ⟨%y, Hd⟩, ⟨Ht₁, Ht₂, Ha⟩, ⟨%W, HO⟩⟩ Hk
  ihave #H₁ := (record_at x w K (.snd t) c) $$ HR
  ihave #H₂ := (record_at x w K (.rcv t) (t.tgt c)) $$ HR
  icases H₁ with ⟨#HI₁, #HR₁⟩
  icases H₂ with ⟨#HI₂, #HR₂⟩
  iapply (Rounds.wp_send_pointsTo (Γ := []) (defs := defs₀ (F := F)) 𝒱₀ EB (sched x w) (c : Thread nD τ) none (κ₁ := K (c, .snd t)) (κ₂ := K (t.tgt c, .rcv t))
    (c' := (t.tgt c : Thread nD τ)) (src := t.src) (dst := t.dst) (sS := .dma t.sS) (sem := .dma t.rS)
    (r₁ := 0) (r₂ := 0) (d₁ := false) (d₂ := false) (q := t.share)
    (fs := fill (c : Thread nD τ) t.src.view (t.val x w c)) (fd := fill (t.tgt c : Thread nD τ) t.dst.view y)
    (show false ∈ (sched x w).duties (cell (.snd t) c) 0 by rw [duties_cell]; exact Finset.mem_singleton_self _)
    (show false ∈ (sched x w).duties (cell (.rcv t) (t.tgt c)) 0 by rw [duties_cell]; exact Finset.mem_singleton_self _)
    () () t.amt rfl (amount_cell x w (.snd t) c false) (amount_cell x w (.rcv t) (t.tgt c) false) (debt c (t.pos + 1)) (debt_pos t c) (W := W)
    (show _ ⊢ (sched x w).payload (cell (.snd t) c) 0 false by rw [payload_cell]; exact BI.Entails.refl _)
    (show _ ⊢ (sched x w).payload (cell (.rcv t) (t.tgt c)) 0 false by
      rw [payload_cell, held_write, read_fill]
      show _ ⊢ landed x w t (t.tgt c)
      unfold landed
      rw [Tr.frm_tgt])) $$ [Hs Hd Ht₁ Ht₂ HO]
  · isplitr; · iexact HI₁
    isplitr; · iexact HI₂
    isplitl [Hs]; · unfold held; iexact Hs
    isplitl [Hd]; · unfold held; iexact Hd
    isplitl [HO]; · iexact HO
    isplitl [Ht₁]; · iexact Ht₁
    isplitr; · iexact HR₁
    isplitl [Ht₂]; · iexact Ht₂
    iexact HR₂
  iintro ⟨Hc, HO⟩
  iapply Hk
  isplitl [Hc Ha]
  · isplitl [Hc] <;> iassumption
  iexists W; iexact HO

/-- A wait for the whole of a ring cell's round: its payload, and the counter back at zero for good. -/
theorem wp_role {α : Type} {Q : α → sProp 𝕄} {k : PUnit.{1} → Prog (TpuEff nD τ sig (Elt F) Λ₀ .tc) α}
    (r : Role) (c : Dev nD) {p N : ℕ} (hlev : lv (cell r c) () < p + 2) (hN : (sched x w).expect (cell r c) 0 = N)
    {e : TpuEff nD τ sig (Elt F) Λ₀ .tc PUnit}
    (he : ∀ K : PUnit → sProp 𝕄, wpE (defs₀ (F := F)) 𝒱₀ (c : Thread nD τ) none Set.univ e K = waitSpec (c : Thread nD τ) Set.univ r.sem N K)
    {P : sProp 𝕄} (hP : bigSep ((sched x w).duties (cell r c) 0 \ ∅) (fun d => (sched x w).payload (cell r c) 0 d) = P) :
    iprop(ctx x w ∗ (cred (tallyAt (cell r c) () N) ∗ atPos EB (cell r c) 0 ∅ 0) ∗ owe c p)
      ⊢ iprop(((P ∗ semVal (cell r c) 0 ∗ owe c p) -∗ wp frame (wpE (defs₀ (F := F)) 𝒱₀ (c : Thread nD τ) none) Set.univ (k ⟨⟩) Q)
          -∗ wp frame (wpE (defs₀ (F := F)) 𝒱₀ (c : Thread nD τ) none) Set.univ (.op e k) Q) := by
  unfold ctx owe
  iintro ⟨⟨⟨%K, #HR⟩, #Hlev⟩, ⟨Hc, Ha⟩, ⟨%W, HO⟩⟩ Hk
  ihave #H₁ := (record_at x w K r c) $$ HR
  icases H₁ with ⟨#HI, -⟩
  iapply (Rounds.wp_wait_rest_token (Γ := []) (defs := defs₀ (F := F)) 𝒱₀ EB (sched x w) (c : Thread nD τ) none (κ := K (c, r)) (sm := r.sem) (k' := N) he (Set.mem_univ _) ()
    (O := debt c p) (W := W) (R := 0) (m := 0) (T := ∅) (by rw [Nat.zero_add]; exact hN.symm)) $$ [Hc Ha HO]
  · isplitr; · iexact HI
    isplitl [Hc]; · iexact Hc
    isplitl [HO]; · iexact HO
    isplitr; · iapply (mayWait_debt c p r.sem hlev); iexact Hlev
    iexact Ha
  rw [hP]
  iintro ⟨HO, Ha, -, HP⟩
  imod (Rounds.cell_close EB (sched x w) (g := cell r c) (κ := K (c, r)) (Es := Set.univ) (Set.mem_univ _) (fun h => h) (R := 1) (fun r' hr => duties_later x w _ r' hr)) $$ [Ha] with Hz
  · isplitr; · iexact HI
    iexact Ha
  iapply Hk
  isplitl [HP]; · iexact HP
  isplitl [Hz]; · iexact Hz
  iexists _; iexact HO

/-- A wait for transfer `t` to land, naming any destination of its credit: its block. -/
theorem wp_landed {α : Type} {Q : α → sProp 𝕄} {k : PUnit.{1} → Prog (TpuEff nD τ sig (Elt F) Λ₀ .tc) α}
    (t : Tr) (c : Dev nD) {p : ℕ} (hp : t.pos < p) {sp sp' : Space} {s s' : Shape} {e e' : EltTy}
    {srcw : Memref sig .tc sp' s' e'} {dstw : Memref sig .tc sp s e} {hsrc : srcw.view.WordExact} {hdst : dstw.view.WordExact}
    (hN : dstw.view.dmaCredit = t.amt) :
    iprop(ctx x w ∗ due t c ∗ owe c p)
      ⊢ iprop(((landed x w t c ∗ semVal (cell (.rcv t) c) 0 ∗ owe c p) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 t.rS srcw dstw hsrc hdst) k) Q) :=
  wp_role x w (.rcv t) c (by rw [lv_rcv]; omega) (expect_rcv x w t c)
    (fun K => (wpE_waitDma2_eq 𝒱₀ (c : Thread nD τ) none Set.univ K).trans (by rw [hN])) (rest_rcv x w t c)

/-- A wait for transfer `t` to be gone: its source back. -/
theorem wp_gone {α : Type} {Q : α → sProp 𝕄} {k : PUnit.{1} → Prog (TpuEff nD τ sig (Elt F) Λ₀ .tc) α}
    (t : Tr) (c : Dev nD) {p : ℕ} {sp sp' : Space} {s s' : Shape} {e e' : EltTy}
    {srcw : Memref sig .tc sp' s' e'} {dstw : Memref sig .tc sp s e} {hsrc : srcw.view.WordExact} {hdst : dstw.view.WordExact}
    (hN : dstw.view.dmaCredit = t.amt) :
    iprop(ctx x w ∗ going t c ∗ owe c p)
      ⊢ iprop(((gone x w t c ∗ semVal (cell (.snd t) c) 0 ∗ owe c p) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 t.sS srcw dstw hsrc hdst) k) Q) :=
  wp_role x w (.snd t) c (by rw [lv_snd]; omega) (expect_snd x w t c)
    (fun K => (wpE_waitDma2_eq 𝒱₀ (c : Thread nD τ) none Set.univ K).trans (by rw [hN])) (rest_snd x w t c)

/-- The wait for both neighbours' signals: the landing buffers of all the device's transfers. -/
theorem wp_meet {α : Type} {Q : α → sProp 𝕄} {k : PUnit.{1} → Prog (TpuEff nD τ sig (Elt F) Λ₀ .tc) α}
    (c : Dev nD) :
    iprop(ctx x w ∗ (cred (tallyAt (cell .bar c) () 2) ∗ atPos EB (cell .bar c) 0 ∅ 0) ∗ owe c 0)
      ⊢ iprop((((freeL c ∗ freeR c) ∗ semVal (cell .bar c) 0 ∗ owe c 0) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 2) k) Q) :=
  wp_role x w .bar c (by rw [lv_bar]; omega) (expect_bar x w c)
    (fun K => wpE_semWait_eq 𝒱₀ (c : Thread nD τ) none Set.univ K) (rest_bar x w c)

/-- A signal to a neighbour `n`'s barrier, paying duty `d` of it. -/
theorem wp_sig {α : Type} {Q : α → sProp 𝕄} {k : PUnit.{1} → Prog (TpuEff nD τ sig (Elt F) Λ₀ .tc) α}
    (c n : Dev nD) (d : Bool) {O₀ O : CellTallies nD τ sig Unit} (hO : O₀ = O + tallyAt (cell .bar n) () 1)
    {P : sProp 𝕄} (hP : Role.bar.pay x w n d = P) :
    iprop(ctx x w ∗ (∃ W, owes (c : Thread nD τ) O₀ W) ∗ dutyTok EB (cell .bar n) 0 d ∗ P)
      ⊢ iprop(((∃ W, owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS 1) k) Q) := by
  unfold ctx
  iintro ⟨⟨⟨%K, #HR⟩, -⟩, ⟨%W, HO⟩, Ht, HP⟩ Hk
  ihave #H₁ := (record_at x w K .bar n) $$ HR
  icases H₁ with ⟨#HI, #Hre⟩
  iapply (Rounds.wp_signal (Γ := []) (defs := defs₀ (F := F)) 𝒱₀ EB (sched x w) (c : Thread nD τ) none (dst := (n : Thread nD τ)) (sem := barS) (κ := K (n, .bar)) (r := 0) (d := d)
    (show d ∈ (sched x w).duties (cell .bar n) 0 by rw [duties_cell]; exact Finset.mem_univ _) (amount_cell x w .bar n d) () O hO (W := W)) $$ [HO Ht HP]
  · isplitr; · iexact HI
    isplitl [HO]; · iexact HO
    isplitl [Ht]; · iexact Ht
    isplitl [HP]
    · iapply (Entails.of_eq (hP.symm.trans (payload_cell x w .bar n d).symm)); iexact HP
    iexact Hre
  iintro HO
  iapply Hk
  iexists W; iexact HO

/-- The signal to the left neighbour, handing over the landing buffers of its transfers to the right. -/
theorem wp_sigL {α : Type} {Q : α → sProp 𝕄} {k : PUnit.{1} → Prog (TpuEff nD τ sig (Elt F) Λ₀ .tc) α}
    (c : Dev nD) {n : Dev nD} (hn : n = lft c) :
    iprop(ctx x w ∗ (∃ W, owes (c : Thread nD τ) (owed₀ c) W) ∗ dutyTok EB (cell .bar (lft c)) 0 true ∗ freeR (lft c))
      ⊢ iprop(((∃ W, owes (c : Thread nD τ) (owed₁ c) W) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS 1) k) Q) := by
  subst hn; exact wp_sig x w c (lft c) true rfl rfl

/-- The signal to the right neighbour, handing over the landing buffers of its transfers to the left. -/
theorem wp_sigR {α : Type} {Q : α → sProp 𝕄} {k : PUnit.{1} → Prog (TpuEff nD τ sig (Elt F) Λ₀ .tc) α}
    (c : Dev nD) {n : Dev nD} (hn : n = rgt c) :
    iprop(ctx x w ∗ (∃ W, owes (c : Thread nD τ) (owed₁ c) W) ∗ dutyTok EB (cell .bar (rgt c)) 0 false ∗ freeL (rgt c))
      ⊢ iprop((owe c 0 -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS 1) k) Q) := by
  subst hn; exact wp_sig x w c (rgt c) false rfl rfl

/-! ## The device's own copies -/

/-- The semaphores of a device's own copies: its rows in, and the seven pieces of its result out. -/
abbrev lS : Fin 8 → DmaSem sig
  | 0 => ((cc0_scratch23.slice (Rect.unit (s := S8) ![0] S1.size inb_S8_S1_0)).squeeze S_ squeezes_S1_S_).sem
  | 1 => ((cc0_scratch23.slice (Rect.unit (s := S8) ![1] S1.size inb_S8_S1_1)).squeeze S_ squeezes_S1_S_).sem
  | 2 => ((cc0_scratch23.slice (Rect.unit (s := S8) ![2] S1.size inb_S8_S1_2)).squeeze S_ squeezes_S1_S_).sem
  | 3 => ((cc0_scratch23.slice (Rect.unit (s := S8) ![3] S1.size inb_S8_S1_3)).squeeze S_ squeezes_S1_S_).sem
  | 4 => ((cc0_scratch23.slice (Rect.unit (s := S8) ![4] S1.size inb_S8_S1_4)).squeeze S_ squeezes_S1_S_).sem
  | 5 => ((cc0_scratch23.slice (Rect.unit (s := S8) ![5] S1.size inb_S8_S1_5)).squeeze S_ squeezes_S1_S_).sem
  | 6 => ((cc0_scratch23.slice (Rect.unit (s := S8) ![6] S1.size inb_S8_S1_6)).squeeze S_ squeezes_S1_S_).sem
  | 7 => ((cc0_scratch23.slice (Rect.unit (s := S8) ![7] S1.size inb_S8_S1_7)).squeeze S_ squeezes_S1_S_).sem

theorem roleOf_lS (i : Fin 8) : roleOf (.dma (lS i)) = none := by fin_cases i <;> rfl

/-- The rectangles of the result: the rows of the device itself, of its right, left and opposite neighbour, the last
    three by column halves. -/
abbrev o1 (c : Dev nD) : Memref sig .tc .hbm S1024x512 .f32 := oM.slice (Rect.unit (s := S4096x512) (k0_off1 c) S1024x512.size (k0_off1_inb c)) (fun _ => rfl)
abbrev o2 (c : Dev nD) : Memref sig .tc .hbm S1024x256 .f32 := oM.slice (Rect.unit (s := S4096x512) (k0_off2 c 1#32) S1024x256.size (k0_off2_inb c 0)) (fun _ => rfl)
abbrev o3 (c : Dev nD) : Memref sig .tc .hbm S1024x256 .f32 := oM.slice (Rect.unit (s := S4096x512) (k0_off3 c) S1024x256.size (k0_off3_inb c)) (fun _ => rfl)
abbrev o4 (c : Dev nD) : Memref sig .tc .hbm S1024x256 .f32 := oM.slice (Rect.unit (s := S4096x512) (k0_off2 c 2#32) S1024x256.size (k0_off2_inb c 1)) (fun _ => rfl)
abbrev o5 (c : Dev nD) : Memref sig .tc .hbm S1024x256 .f32 := oM.slice (Rect.unit (s := S4096x512) (k0_off4 c 2#32) S1024x256.size (k0_off4_inb c 1)) (fun _ => rfl)
abbrev o6 (c : Dev nD) : Memref sig .tc .hbm S1024x256 .f32 := oM.slice (Rect.unit (s := S4096x512) (k0_off4 c 1#32) S1024x256.size (k0_off4_inb c 0)) (fun _ => rfl)
abbrev o7 (c : Dev nD) : Memref sig .tc .hbm S1024x256 .f32 := oM.slice (Rect.unit (s := S4096x512) (k0_off5 c) S1024x256.size (k0_off5_inb c)) (fun _ => rfl)

/-- A copy of the block `v` in flight on device `c`'s semaphore `i`: landed, it gives the destination at `v` and the
    source back. -/
def copying (c : Dev nD) (i : Fin 8) {sp sp' : Space} {s : Shape} {e : EltTy} (src : Memref sig .tc sp s e) (dst : Memref sig .tc sp' s e) (v : s.Idx → Elt F e) : sProp 𝕄 :=
  Transfers.Flight countersEmb (c : Thread nD τ) (.dma (lS i)) () dst.view.dmaCredit
    iprop(held (c : Thread nD τ) dst.view fullShare v ∗ held (c : Thread nD τ) src.view fullShare v)

/-- A copy started. -/
theorem wp_copy {α : Type} {Q : α → sProp 𝕄} {k : PUnit.{1} → Prog (TpuEff nD τ sig (Elt F) Λ₀ .tc) α}
    (c : Dev nD) (i : Fin 8) {sp sp' : Space} {s : Shape} {e : EltTy} {src : Memref sig .tc sp s e} {dst : Memref sig .tc sp' s e}
    {hsrc : src.view.WordExact} {hdst : dst.view.WordExact} {hsem : DmaTarget.Typed (nD := nD) (τ := τ) (p := .tc) sp (.dma (lS i)) (.here dst)} {v y : s.Idx → Elt F e}
    (h0 : 0 < s.numel) :
    iprop(held (c : Thread nD τ) src.view fullShare v ∗ held (c : Thread nD τ) dst.view fullShare y ∗ semVal ((c : Thread nD τ), .dma (lS i)) 0)
      ⊢ iprop((copying c i src dst v -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma (lS i)) hsrc hdst hsem) k) Q) :=
  wp_cp 𝒱₀ (c : Thread nD τ) none countersEmb () h0

/-- A wait for a copy. -/
theorem wp_copied {α : Type} {Q : α → sProp 𝕄} {k : PUnit.{1} → Prog (TpuEff nD τ sig (Elt F) Λ₀ .tc) α}
    (c : Dev nD) (i : Fin 8) {p : ℕ} {sp sp' : Space} {s : Shape} {e : EltTy} {src : Memref sig .tc sp s e} {dst : Memref sig .tc sp' s e}
    {hsrc : src.view.WordExact} {hdst : dst.view.WordExact} {v : s.Idx → Elt F e} :
    iprop(ctx x w ∗ copying c i src dst v ∗ owe c p)
      ⊢ iprop((((held (c : Thread nD τ) dst.view fullShare v ∗ held (c : Thread nD τ) src.view fullShare v) ∗ semVal ((c : Thread nD τ), .dma (lS i)) 0 ∗ owe c p)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (lS i) src dst hsrc hdst) k) Q) := by
  unfold ctx owe copying
  iintro ⟨⟨-, #Hlev⟩, Hf, ⟨%W, HO⟩⟩ Hk
  iapply (Transfers.wp_waitLocalO (defs := defs₀ (F := F)) countersEmb 𝒱₀ (c : Thread nD τ) none () rfl (O := debt c p) (W := W)) $$ [Hf HO]
  · isplitl [Hf]; · iexact Hf
    isplitl [HO]; · iexact HO
    iapply (mayWait_debt c p (.dma (lS i)) (show lv ((c : Thread nD τ), SemLoc.dma (lS i)) () < p + 2 by dsimp only [lv]; rw [roleOf_lS]; dsimp only; omega))
    iexact Hlev
  iintro ⟨HD, Hz, HO⟩
  iapply Hk
  isplitl [HD]; · iexact HD
  isplitl [Hz]; · iexact Hz
  iexists _; iexact HO

/-! ## The blocks, spelled out -/

/-- The credit of a transfer depends on its shape and element type alone. -/
theorem credit_same {sp sp' : Space} {s : Shape} {e : EltTy} (v : View sig .tc sp s e) (v' : View sig .tc sp' s e) : v.dmaCredit = v'.dmaCredit := rfl

theorem landed_t0 (c : Dev nD) : landed x w .t0 c = held (c : Thread nD τ) (wlM.access ka) fullShare (Tr.val x w (lft c) .t0) := rfl
theorem landed_t1 (c : Dev nD) : landed x w .t1 c = held (c : Thread nD τ) (wlM.access kb) fullShare (Tr.val x w (lft c) .t1) := rfl
theorem landed_t2 (c : Dev nD) : landed x w .t2 c = held (c : Thread nD τ) (wrM.access kb) fullShare (Tr.val x w (rgt c) .t2) := rfl
theorem landed_t3 (c : Dev nD) : landed x w .t3 c = held (c : Thread nD τ) (wrM.access ka) fullShare (Tr.val x w (rgt c) .t3) := rfl
theorem landed_t4 (c : Dev nD) : landed x w .t4 c = held (c : Thread nD τ) woaM.view fullShare (Tr.val x w (lft c) .t4) := rfl
theorem landed_t5 (c : Dev nD) : landed x w .t5 c = held (c : Thread nD τ) wobM.view fullShare (Tr.val x w (rgt c) .t5) := rfl
theorem landed_t6 (c : Dev nD) : landed x w .t6 c = held (c : Thread nD τ) (irM.access ja) fullShare (Tr.val x w (rgt c) .t6) := rfl
theorem landed_t7 (c : Dev nD) : landed x w .t7 c = held (c : Thread nD τ) (irM.access jb) fullShare (Tr.val x w (rgt c) .t7) := rfl
theorem landed_t8 (c : Dev nD) : landed x w .t8 c = held (c : Thread nD τ) (ilM.access jb) fullShare (Tr.val x w (lft c) .t8) := rfl
theorem landed_t9 (c : Dev nD) : landed x w .t9 c = held (c : Thread nD τ) (ilM.access ja) fullShare (Tr.val x w (lft c) .t9) := rfl
theorem landed_t10 (c : Dev nD) : landed x w .t10 c = held (c : Thread nD τ) faM.view fullShare (Tr.val x w (lft c) .t10) := rfl
theorem landed_t11 (c : Dev nD) : landed x w .t11 c = held (c : Thread nD τ) fbM.view fullShare (Tr.val x w (rgt c) .t11) := rfl
theorem landed_t12 (c : Dev nD) : landed x w .t12 c = held (c : Thread nD τ) ioaM.view fullShare (Tr.val x w (lft c) .t12) := rfl
theorem landed_t13 (c : Dev nD) : landed x w .t13 c = held (c : Thread nD τ) iobM.view fullShare (Tr.val x w (rgt c) .t13) := rfl
theorem gone_t4 (c : Dev nD) : held (c : Thread nD τ) (wlM.access ka) fullShare.left (Tr.val x w (lft c) .t0) = gone x w .t4 c := rfl
theorem gone_t5 (c : Dev nD) : held (c : Thread nD τ) (wrM.access kb) fullShare.left (Tr.val x w (rgt c) .t2) = gone x w .t5 c := rfl
theorem gone_t6 (c : Dev nD) : held (c : Thread nD τ) (blM.access ja) fullShare (k0_pay3 (xb x c) (wa w (lft c))) = gone x w .t6 c := rfl
theorem gone_t7 (c : Dev nD) : held (c : Thread nD τ) (blM.access jb) fullShare (k0_pay9 (xb x c) (wb w (lft c))) = gone x w .t7 c := rfl
theorem gone_t8 (c : Dev nD) : held (c : Thread nD τ) (brM.access jb) fullShare (k0_pay4 (xb x c) (wb w (rgt c))) = gone x w .t8 c := rfl
theorem gone_t9 (c : Dev nD) : held (c : Thread nD τ) (brM.access ja) fullShare (k0_pay10 (xb x c) (wa w (rgt c))) = gone x w .t9 c := rfl
theorem gone_t10 (c : Dev nD) : held (c : Thread nD τ) boaM.view fullShare (k0_pay5 (xb x c) (wa w (lft (lft c)))) = gone x w .t10 c := rfl
theorem gone_t11 (c : Dev nD) : held (c : Thread nD τ) bobM.view fullShare (k0_pay6 (xb x c) (wb w (rgt (rgt c)))) = gone x w .t11 c := rfl
theorem gone_t12 (c : Dev nD) : held (c : Thread nD τ) faM.view fullShare (Tr.val x w (lft c) .t10) = gone x w .t12 c := rfl
theorem gone_t13 (c : Dev nD) : held (c : Thread nD τ) fbM.view fullShare (Tr.val x w (rgt c) .t11) = gone x w .t13 c := rfl

/-! ## Where the kernel sends -/

theorem dev1 (c : Dev nD) : (⟨k0_dev1 c, k0_dev1_lt c⟩ : Dev nD) = lft c := by revert c; decide
theorem dev2 (c : Dev nD) : (⟨k0_dev2 c, k0_dev2_lt c⟩ : Dev nD) = rgt c := by revert c; decide
theorem dev3 (c : Dev nD) : (⟨k0_dev3 c, k0_dev3_lt c⟩ : Dev nD) = rgt c := by revert c; decide
theorem dev4 (c : Dev nD) : (⟨k0_dev4 c, k0_dev4_lt c⟩ : Dev nD) = lft c := by revert c; decide
theorem dev5 (c : Dev nD) : (⟨k0_dev5 c, k0_dev5_lt c⟩ : Dev nD) = rgt c := by revert c; decide
theorem dev6 (c : Dev nD) : (⟨k0_dev6 c, k0_dev6_lt c⟩ : Dev nD) = rgt c := by revert c; decide
theorem dev7 (c : Dev nD) : (⟨k0_dev7 c, k0_dev7_lt c⟩ : Dev nD) = lft c := by revert c; decide
theorem dev8 (c : Dev nD) : (⟨k0_dev8 c, k0_dev8_lt c⟩ : Dev nD) = lft c := by revert c; decide
theorem dev9 (c : Dev nD) : (⟨k0_dev9 c, k0_dev9_lt c⟩ : Dev nD) = lft c := by revert c; decide
theorem dev10 (c : Dev nD) : (⟨k0_dev10 c, k0_dev10_lt c⟩ : Dev nD) = rgt c := by revert c; decide
theorem dev11 (c : Dev nD) : (⟨k0_dev11 c, k0_dev11_lt c⟩ : Dev nD) = rgt c := by revert c; decide
theorem dev12 (c : Dev nD) : (⟨k0_dev12 c, k0_dev12_lt c⟩ : Dev nD) = lft c := by revert c; decide
theorem dev13 (c : Dev nD) : (⟨k0_dev13 c, k0_dev13_lt c⟩ : Dev nD) = rgt c := by revert c; decide
theorem dev14 (c : Dev nD) : (⟨k0_dev14 c, k0_dev14_lt c⟩ : Dev nD) = lft c := by revert c; decide
theorem dev15 (c : Dev nD) : (⟨k0_dev15 c, k0_dev15_lt c⟩ : Dev nD) = lft c := by revert c; decide
theorem dev16 (c : Dev nD) : (⟨k0_dev16 c, k0_dev16_lt c⟩ : Dev nD) = rgt c := by revert c; decide

end Cert.Ring

end
-- ==== Proof.Out.lean ====
/-
# `Out`: a device's result, from its seven pieces

A device writes its 4096×512 result in seven pieces: the 1024 rows of its own, all at once, and the 1024 rows of each
other device by column halves. Every element lies in exactly one piece. This module says in which, what the result then
contains, and that the whole array is the seven pieces held one by one.
-/
module

public import proofs.«01_k».proof.Proof.Steps
public import Idealize.ShloMosaic.Lib.ValueIdxCore

@[expose] public section

noncomputable section

namespace Cert.Ring

open Cert.KernelIdeal Cert.KernelIdeal.Gen Cert.Held

open Idealize.ShloMosaic
open Idealize.ShloMosaic.TcCoe
open Idealize.ShloMosaic.ValueIdx (ix2)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (x : Dev nD → S1024x4096.Idx → Elt F .f32) (w : Dev nD → S4096x512.Idx → Elt F .bf16)

/-! ## Where the pieces lie -/

theorem off1_eq (c : Dev nD) : k0_off1 c = ![1024 * c.val, 0] := by revert c; decide
theorem off2_one_eq (c : Dev nD) : k0_off2 c 1#32 = ![1024 * (rgt c).val, 0] := by revert c; decide
theorem off3_eq (c : Dev nD) : k0_off3 c = ![1024 * (lft c).val, 256] := by revert c; decide
theorem off2_two_eq (c : Dev nD) : k0_off2 c 2#32 = ![1024 * (rgt (rgt c)).val, 0] := by revert c; decide
theorem off4_two_eq (c : Dev nD) : k0_off4 c 2#32 = ![1024 * (rgt (rgt c)).val, 256] := by revert c; decide
theorem off4_one_eq (c : Dev nD) : k0_off4 c 1#32 = ![1024 * (rgt c).val, 256] := by revert c; decide
theorem off5_eq (c : Dev nD) : k0_off5 c = ![1024 * (lft c).val, 0] := by revert c; decide

/-- The piece an element of the result lies in, by the device its rows belong to and its column half. -/
def place (c : Dev nD) (i : S4096x512.Idx) : Fin 7 :=
  if (i 0).val / 1024 = c.val then 0
  else if (i 0).val / 1024 = (c.val + 1) % 4 then (if (i 1).val < 256 then 1 else 5)
  else if (i 0).val / 1024 = (c.val + 3) % 4 then (if (i 1).val < 256 then 6 else 2)
  else (if (i 1).val < 256 then 3 else 4)

/-- The elements of a piece. -/
def fibre (c : Dev nD) (k : Fin 7) : Finset S4096x512.Idx := Finset.univ.filter fun i => place c i = k

/-- The first row, over 1024, the first column and the width of a piece. -/
def rowOf (c : Dev nD) : Fin 7 → ℕ := ![c.val, (c.val + 1) % 4, (c.val + 3) % 4, ((c.val + 1) % 4 + 1) % 4, ((c.val + 1) % 4 + 1) % 4, (c.val + 1) % 4, (c.val + 3) % 4]
def colOf : Fin 7 → ℕ := ![0, 0, 256, 0, 256, 256, 0]
def wide : Fin 7 → ℕ := ![512, 256, 256, 256, 256, 256, 256]

/-- An element lies in a piece where its coordinates are within the piece's bounds. -/
theorem place_iff (c : Dev nD) (k : Fin 7) (i : S4096x512.Idx) :
    ((1024 * rowOf c k ≤ (i 0).val ∧ (i 0).val < 1024 * rowOf c k + 1024) ∧ (colOf k ≤ (i 1).val ∧ (i 1).val < colOf k + wide k)) ↔ place c i = k := by
  have h0 : (i 0).val < 4096 := (i 0).isLt
  have h1 : (i 1).val < 512 := (i 1).isLt
  have hc : c.val < 4 := c.isLt
  generalize hr : (i 0).val = r at *
  generalize hj : (i 1).val = j at *
  generalize hv : c.val = v at *
  unfold place
  rw [hr, hj, hv]
  fin_cases k <;> simp only [rowOf, colOf, wide, hv] <;> dsimp <;> split_ifs <;> simp only [Fin.reduceEq, iff_true, iff_false] <;> omega

/-- A rectangle with a piece's bounds is the piece. -/
theorem set_eq_fibre (c : Dev nD) (k : Fin 7) {off size : Fin 2 → ℕ} {inb} (ho : off = ![1024 * rowOf c k, colOf k]) (hs : size = ![1024, wide k]) :
    (Rect.unit (s := S4096x512) off size inb).set = fibre c k := by
  subst ho hs
  ext i
  rw [Rect.mem_set_unit, fibre, Finset.mem_filter, ← place_iff c k i]
  constructor
  · exact fun H => ⟨Finset.mem_univ _, H 0, H 1⟩
  · exact fun H a => by fin_cases a; exacts [H.2.1, H.2.2]

/-! ## What the result contains -/

/-- An element of a 1024-row block at the row and column it has within its piece. -/
def at512 {α : Type} (v : S1024x512.Idx → α) (i : S4096x512.Idx) : α :=
  v (ix2 ⟨(i 0).val % 1024, Nat.mod_lt _ (by decide)⟩ ⟨(i 1).val, (i 1).isLt⟩)
def at256 {α : Type} (v : S1024x256.Idx → α) (i : S4096x512.Idx) : α :=
  v (ix2 ⟨(i 0).val % 1024, Nat.mod_lt _ (by decide)⟩ ⟨(i 1).val % 256, Nat.mod_lt _ (by decide)⟩)

/-- The block a piece of device `c`'s result is: its own rows' product with its columns; the other devices' rows'
    products, received. -/
def pieceVal (c : Dev nD) (k : Fin 7) (i : S4096x512.Idx) : Elt F .f32 :=
  match k with
  | 0 => at512 (k0_pay2 (xb x c) (w c)) i
  | 1 => at256 (k0_pay7 (Tr.val x w (rgt c) .t6)) i
  | 2 => at256 (k0_pay7 (Tr.val x w (lft c) .t8)) i
  | 3 => at256 (k0_pay7 (Tr.val x w (lft c) .t12)) i
  | 4 => at256 (k0_pay7 (Tr.val x w (rgt c) .t13)) i
  | 5 => at256 (k0_pay7 (Tr.val x w (rgt c) .t7)) i
  | 6 => at256 (k0_pay7 (Tr.val x w (lft c) .t9)) i

/-- Device `c`'s result: each element as its piece says. -/
def OUT (c : Dev nD) (i : S4096x512.Idx) : Elt F .f32 := pieceVal x w c (place c i) i

/-- A block read at a place of its piece is the block there. -/
theorem at512_emb {α : Type} (v : S1024x512.Idx → α) {a : ℕ} {off : Fin 2 → ℕ} {inb} (ho : off = ![1024 * a, 0]) (j : S1024x512.Idx) :
    at512 v ((Rect.unit (s := S4096x512) off S1024x512.size inb).emb j) = v j := by
  subst ho
  refine congrArg v (funext fun b => Fin.ext ?_)
  fin_cases b
  · show ((Rect.unit (s := S4096x512) _ S1024x512.size inb).emb j 0).val % 1024 = (j 0).val
    rw [Rect.emb_apply]
    have := (j 0).isLt
    show (1024 * a + 1 * (j 0).val) % 1024 = (j 0).val
    rw [Nat.mul_add_mod, Nat.one_mul]; exact Nat.mod_eq_of_lt this
  · show ((Rect.unit (s := S4096x512) _ S1024x512.size inb).emb j 1).val = (j 1).val
    rw [Rect.emb_apply]
    show 0 + 1 * (j 1).val = (j 1).val
    omega
theorem at256_emb {α : Type} (v : S1024x256.Idx → α) {a b : ℕ} {off : Fin 2 → ℕ} {inb} (ho : off = ![1024 * a, 256 * b]) (j : S1024x256.Idx) :
    at256 v ((Rect.unit (s := S4096x512) off S1024x256.size inb).emb j) = v j := by
  subst ho
  refine congrArg v (funext fun d => Fin.ext ?_)
  fin_cases d
  · show ((Rect.unit (s := S4096x512) _ S1024x256.size inb).emb j 0).val % 1024 = (j 0).val
    rw [Rect.emb_apply]
    have := (j 0).isLt
    show (1024 * a + 1 * (j 0).val) % 1024 = (j 0).val
    rw [Nat.mul_add_mod, Nat.one_mul]; exact Nat.mod_eq_of_lt this
  · show ((Rect.unit (s := S4096x512) _ S1024x256.size inb).emb j 1).val % 256 = (j 1).val
    rw [Rect.emb_apply]
    have := (j 1).isLt
    show (256 * b + 1 * (j 1).val) % 256 = (j 1).val
    rw [Nat.mul_add_mod, Nat.one_mul]; exact Nat.mod_eq_of_lt this

/-! ## The array as its pieces -/

/-- A piece of the array at contents `f`, as the copy's destination held at what it reads of `f`. -/
theorem piece_eq (c : Dev nD) (k : Fin 7) {off size : Fin 2 → ℕ} {inb} (ho : off = ![1024 * rowOf c k, colOf k]) (hs : size = ![1024, wide k])
    (f : S4096x512.Idx → Elt F .f32) {v : (Rect.unit (s := S4096x512) off size inb).shape.Idx → Elt F .f32}
    (hv : ∀ j, f ((Rect.unit (s := S4096x512) off size inb).emb j) = v j) :
    ((c : Thread nD τ).loc main_v1 ↦[fibre c k]{fullShare} f : sProp 𝕄)
      = held (c : Thread nD τ) (oM.slice (Rect.unit (s := S4096x512) off size inb) (fun _ => rfl)).view fullShare v := by
  have h := held_eq (Ix := Unit) (Name := ℕ) (U := UU) (Lvl := ℕ) (c : Thread nD τ) (oM.slice (Rect.unit (s := S4096x512) off size inb) (fun _ => rfl)).view fullShare f
  rw [← set_eq_fibre c k (inb := inb) ho hs, ← View.set_slice_whole main_v1]
  exact h.trans (congrArg (held _ _ _) (funext hv))

/-- A buffer's elements, sorted by a function into seven, are the seven sorts held one by one. -/
theorem sorted_seven (ℓ : Loc nD τ sig) (p : Idx ℓ → Fin 7) (K : Fin 7 → Finset (Idx ℓ)) (hK : ∀ k, K k = Finset.univ.filter fun i => p i = k) (f : Buf (Elt F) ℓ) :
    (ℓ ↦{fullShare} f : sProp 𝕄)
      = iprop((ℓ ↦[K 0]{fullShare} f) ∗ (ℓ ↦[K 1]{fullShare} f) ∗ (ℓ ↦[K 2]{fullShare} f) ∗ (ℓ ↦[K 3]{fullShare} f)
        ∗ (ℓ ↦[K 4]{fullShare} f) ∗ (ℓ ↦[K 5]{fullShare} f) ∗ (ℓ ↦[K 6]{fullShare} f)) := by
  classical
  have hu : (Finset.univ : Finset (Idx ℓ)) = Finset.univ.biUnion K := by
    ext i
    simp only [Finset.mem_univ, true_iff, Finset.mem_biUnion, true_and]
    exact ⟨p i, by rw [hK]; exact Finset.mem_filter.mpr ⟨Finset.mem_univ _, rfl⟩⟩
  have hd : ∀ k ∈ (Finset.univ : Finset (Fin 7)), ∀ k' ∈ (Finset.univ : Finset (Fin 7)), k ≠ k' → Disjoint (K k) (K k') :=
    fun k _ k' _ hk => Finset.disjoint_left.mpr fun i hi hi' => by
      rw [hK] at hi hi'
      exact hk ((Finset.mem_filter.mp hi).2.symm.trans (Finset.mem_filter.mp hi').2)
  have h : (ℓ ↦[(Finset.univ : Finset (Fin 7)).biUnion K]{fullShare} f : sProp 𝕄) = _ := pointsTo_biUnion Finset.univ K hd
  rw [bigSep_univ_eq_bigSepL [(0 : Fin 7), 1, 2, 3, 4, 5, 6] (by decide) (by decide)] at h
  simp only [bigSepL_cons_cons, bigSepL_singleton] at h
  rw [← hu] at h
  exact h

/-- The whole array at contents `f` is its seven pieces. -/
theorem whole_pieces (c : Dev nD) (f : S4096x512.Idx → Elt F .f32) :
    ((c : Thread nD τ).loc main_v1 ↦{fullShare} f : sProp 𝕄)
      = iprop(((c : Thread nD τ).loc main_v1 ↦[fibre c 0]{fullShare} f) ∗ ((c : Thread nD τ).loc main_v1 ↦[fibre c 1]{fullShare} f)
        ∗ ((c : Thread nD τ).loc main_v1 ↦[fibre c 2]{fullShare} f) ∗ ((c : Thread nD τ).loc main_v1 ↦[fibre c 3]{fullShare} f)
        ∗ ((c : Thread nD τ).loc main_v1 ↦[fibre c 4]{fullShare} f) ∗ ((c : Thread nD τ).loc main_v1 ↦[fibre c 5]{fullShare} f)
        ∗ ((c : Thread nD τ).loc main_v1 ↦[fibre c 6]{fullShare} f)) :=
  sorted_seven ((c : Thread nD τ).loc main_v1) (place c) (fibre c) (fun _ => rfl) f

/-- The pieces by name: each copy's destination at what it reads of `f`. -/
theorem piece_o1 (c : Dev nD) (f : S4096x512.Idx → Elt F .f32) :
    ((c : Thread nD τ).loc main_v1 ↦[fibre c 0]{fullShare} f : sProp 𝕄) = held (c : Thread nD τ) (o1 c).view fullShare ((o1 c).view.read (Elt F) f) :=
  piece_eq c 0 (off := _) (size := _) (inb := k0_off1_inb c) (off1_eq c) rfl f (v := (o1 c).view.read (Elt F) f) fun j => rfl
theorem piece_o2 (c : Dev nD) (f : S4096x512.Idx → Elt F .f32) :
    ((c : Thread nD τ).loc main_v1 ↦[fibre c 1]{fullShare} f : sProp 𝕄) = held (c : Thread nD τ) (o2 c).view fullShare ((o2 c).view.read (Elt F) f) :=
  piece_eq c 1 (off := _) (size := _) (inb := k0_off2_inb c 0) (off2_one_eq c) rfl f (v := (o2 c).view.read (Elt F) f) fun j => rfl
theorem piece_o3 (c : Dev nD) (f : S4096x512.Idx → Elt F .f32) :
    ((c : Thread nD τ).loc main_v1 ↦[fibre c 2]{fullShare} f : sProp 𝕄) = held (c : Thread nD τ) (o3 c).view fullShare ((o3 c).view.read (Elt F) f) :=
  piece_eq c 2 (off := _) (size := _) (inb := k0_off3_inb c) (off3_eq c) rfl f (v := (o3 c).view.read (Elt F) f) fun j => rfl
theorem piece_o4 (c : Dev nD) (f : S4096x512.Idx → Elt F .f32) :
    ((c : Thread nD τ).loc main_v1 ↦[fibre c 3]{fullShare} f : sProp 𝕄) = held (c : Thread nD τ) (o4 c).view fullShare ((o4 c).view.read (Elt F) f) :=
  piece_eq c 3 (off := _) (size := _) (inb := k0_off2_inb c 1) (off2_two_eq c) rfl f (v := (o4 c).view.read (Elt F) f) fun j => rfl
theorem piece_o5 (c : Dev nD) (f : S4096x512.Idx → Elt F .f32) :
    ((c : Thread nD τ).loc main_v1 ↦[fibre c 4]{fullShare} f : sProp 𝕄) = held (c : Thread nD τ) (o5 c).view fullShare ((o5 c).view.read (Elt F) f) :=
  piece_eq c 4 (off := _) (size := _) (inb := k0_off4_inb c 1) (off4_two_eq c) rfl f (v := (o5 c).view.read (Elt F) f) fun j => rfl
theorem piece_o6 (c : Dev nD) (f : S4096x512.Idx → Elt F .f32) :
    ((c : Thread nD τ).loc main_v1 ↦[fibre c 5]{fullShare} f : sProp 𝕄) = held (c : Thread nD τ) (o6 c).view fullShare ((o6 c).view.read (Elt F) f) :=
  piece_eq c 5 (off := _) (size := _) (inb := k0_off4_inb c 0) (off4_one_eq c) rfl f (v := (o6 c).view.read (Elt F) f) fun j => rfl
theorem piece_o7 (c : Dev nD) (f : S4096x512.Idx → Elt F .f32) :
    ((c : Thread nD τ).loc main_v1 ↦[fibre c 6]{fullShare} f : sProp 𝕄) = held (c : Thread nD τ) (o7 c).view fullShare ((o7 c).view.read (Elt F) f) :=
  piece_eq c 6 (off := _) (size := _) (inb := k0_off5_inb c) (off5_eq c) rfl f (v := (o7 c).view.read (Elt F) f) fun j => rfl

/-- The array at any contents, as its seven pieces at some. -/
theorem out_split (c : Dev nD) (f : S4096x512.Idx → Elt F .f32) :
    (held (c : Thread nD τ) oM.view fullShare f : sProp 𝕄)
      ⊢ iprop((∃ y, held (c : Thread nD τ) (o1 c).view fullShare y) ∗ (∃ y, held (c : Thread nD τ) (o2 c).view fullShare y)
        ∗ (∃ y, held (c : Thread nD τ) (o3 c).view fullShare y) ∗ (∃ y, held (c : Thread nD τ) (o4 c).view fullShare y)
        ∗ (∃ y, held (c : Thread nD τ) (o5 c).view fullShare y) ∗ (∃ y, held (c : Thread nD τ) (o6 c).view fullShare y)
        ∗ (∃ y, held (c : Thread nD τ) (o7 c).view fullShare y)) := by
  refine (Entails.of_eq ((held_whole (c : Thread nD τ) main_v1 fullShare f).trans (whole_pieces c f))).trans ?_
  rw [piece_o1, piece_o2, piece_o3, piece_o4, piece_o5, piece_o6, piece_o7]
  iintro ⟨H1, H2, H3, H4, H5, H6, H7⟩
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexists _; iexact H7

/-- What the result contains at a place of a piece. -/
theorem place_emb (c : Dev nD) (k : Fin 7) {off size : Fin 2 → ℕ} {inb} (ho : off = ![1024 * rowOf c k, colOf k]) (hs : size = ![1024, wide k])
    (j : (Rect.unit (s := S4096x512) off size inb).shape.Idx) : place c ((Rect.unit (s := S4096x512) off size inb).emb j) = k := by
  have h : (Rect.unit (s := S4096x512) off size inb).emb j ∈ fibre c k := by
    rw [← set_eq_fibre c k (inb := inb) ho hs, ← Rect.map_emb_univ]
    exact Finset.mem_map_of_mem _ (Finset.mem_univ j)
  exact (Finset.mem_filter.mp h).2

/-- The result read through each copy's destination is the block copied there. -/
theorem read_o1 (c : Dev nD) : (o1 c).view.read (Elt F) (OUT x w c) = (k0_pay2 (xb x c) (w c)) := funext fun j =>
  (congrArg (fun k => pieceVal x w c k _) (place_emb c 0 (inb := k0_off1_inb c) (off1_eq c) rfl j)).trans (at512_emb (inb := k0_off1_inb c) (k0_pay2 (xb x c) (w c)) (off1_eq c) j)
theorem read_o2 (c : Dev nD) : (o2 c).view.read (Elt F) (OUT x w c) = (k0_pay7 (Tr.val x w (rgt c) .t6)) := funext fun j =>
  (congrArg (fun k => pieceVal x w c k _) (place_emb c 1 (inb := k0_off2_inb c 0) (off2_one_eq c) rfl j)).trans (at256_emb (b := 0) (inb := k0_off2_inb c 0) (k0_pay7 (Tr.val x w (rgt c) .t6)) (off2_one_eq c) j)
theorem read_o3 (c : Dev nD) : (o3 c).view.read (Elt F) (OUT x w c) = (k0_pay7 (Tr.val x w (lft c) .t8)) := funext fun j =>
  (congrArg (fun k => pieceVal x w c k _) (place_emb c 2 (inb := k0_off3_inb c) (off3_eq c) rfl j)).trans (at256_emb (b := 1) (inb := k0_off3_inb c) (k0_pay7 (Tr.val x w (lft c) .t8)) (off3_eq c) j)
theorem read_o4 (c : Dev nD) : (o4 c).view.read (Elt F) (OUT x w c) = (k0_pay7 (Tr.val x w (lft c) .t12)) := funext fun j =>
  (congrArg (fun k => pieceVal x w c k _) (place_emb c 3 (inb := k0_off2_inb c 1) (off2_two_eq c) rfl j)).trans (at256_emb (b := 0) (inb := k0_off2_inb c 1) (k0_pay7 (Tr.val x w (lft c) .t12)) (off2_two_eq c) j)
theorem read_o5 (c : Dev nD) : (o5 c).view.read (Elt F) (OUT x w c) = (k0_pay7 (Tr.val x w (rgt c) .t13)) := funext fun j =>
  (congrArg (fun k => pieceVal x w c k _) (place_emb c 4 (inb := k0_off4_inb c 1) (off4_two_eq c) rfl j)).trans (at256_emb (b := 1) (inb := k0_off4_inb c 1) (k0_pay7 (Tr.val x w (rgt c) .t13)) (off4_two_eq c) j)
theorem read_o6 (c : Dev nD) : (o6 c).view.read (Elt F) (OUT x w c) = (k0_pay7 (Tr.val x w (rgt c) .t7)) := funext fun j =>
  (congrArg (fun k => pieceVal x w c k _) (place_emb c 5 (inb := k0_off4_inb c 0) (off4_one_eq c) rfl j)).trans (at256_emb (b := 1) (inb := k0_off4_inb c 0) (k0_pay7 (Tr.val x w (rgt c) .t7)) (off4_one_eq c) j)
theorem read_o7 (c : Dev nD) : (o7 c).view.read (Elt F) (OUT x w c) = (k0_pay7 (Tr.val x w (lft c) .t9)) := funext fun j =>
  (congrArg (fun k => pieceVal x w c k _) (place_emb c 6 (inb := k0_off5_inb c) (off5_eq c) rfl j)).trans (at256_emb (b := 0) (inb := k0_off5_inb c) (k0_pay7 (Tr.val x w (lft c) .t9)) (off5_eq c) j)

/-- The seven pieces at the blocks copied into them are the array at the result. -/
theorem out_join (c : Dev nD) :
    (iprop(held (c : Thread nD τ) (o1 c).view fullShare (k0_pay2 (xb x c) (w c))
        ∗ held (c : Thread nD τ) (o2 c).view fullShare (k0_pay7 (Tr.val x w (rgt c) .t6))
        ∗ held (c : Thread nD τ) (o3 c).view fullShare (k0_pay7 (Tr.val x w (lft c) .t8))
        ∗ held (c : Thread nD τ) (o4 c).view fullShare (k0_pay7 (Tr.val x w (lft c) .t12))
        ∗ held (c : Thread nD τ) (o5 c).view fullShare (k0_pay7 (Tr.val x w (rgt c) .t13))
        ∗ held (c : Thread nD τ) (o6 c).view fullShare (k0_pay7 (Tr.val x w (rgt c) .t7))
        ∗ held (c : Thread nD τ) (o7 c).view fullShare (k0_pay7 (Tr.val x w (lft c) .t9))) : sProp 𝕄)
      ⊢ held (c : Thread nD τ) oM.view fullShare (OUT x w c) := by
  refine BIBase.Entails.trans (Entails.of_eq ?_) (Entails.of_eq ((held_whole (c : Thread nD τ) main_v1 fullShare (OUT x w c)).trans (whole_pieces c (OUT x w c))).symm)
  rw [piece_o1, piece_o2, piece_o3, piece_o4, piece_o5, piece_o6, piece_o7,
    read_o1, read_o2, read_o3, read_o4, read_o5, read_o6, read_o7]

end Cert.Ring

end
-- ==== Proof.PartsA.lean ====
/-
# `PartsA`: the kernel's stretches up to the first products

What each stretch of the kernel needs and leaves, on a device `c` of the ring: the blocks it reads and writes, the transfers
it starts and waits for, the copies it starts and waits for. Every statement names only what its stretch touches.
-/
module

public import proofs.«01_k».proof.Proof.Steps

@[expose] public section

noncomputable section

namespace Cert.Ring

open Cert.KernelIdeal Cert.KernelIdeal.Gen Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → S1024x4096.Idx → Elt F .f32) (w : Dev nD → S4096x512.Idx → Elt F .bf16)

/-- The device's rows fetched, the neighbours met, and the first two transfers started. -/
theorem part2 (c : Dev nD) (v13 v24 : BitVec 32) {yf : S1024x4096.Idx → Elt F .f32} {Q : PUnit → sProp 𝕄} :
    iprop(ctx x w
        ∗ (∃ W, owes (c : Thread nD τ) (owed₀ c) W)
        ∗ dutyTok EB (cell .bar (lft c)) 0 true
        ∗ freeR (lft c)
        ∗ dutyTok EB (cell .bar (rgt c)) 0 false
        ∗ freeL (rgt c)
        ∗ (cred (tallyAt (cell .bar c) () 2) ∗ atPos EB (cell .bar c) 0 ∅ 0)
        ∗ held (c : Thread nD τ) xM.view fullShare (x c)
        ∗ held (c : Thread nD τ) xfM.view fullShare yf
        ∗ semVal ((c : Thread nD τ), .dma (lS 0)) 0
        ∗ gone x w .t0 c
        ∗ gone x w .t2 c
        ∗ ready .t0 c
        ∗ ready .t2 c)
      ⊢ iprop((going .t0 c
          ∗ going .t2 c
          ∗ free .t3 c
          ∗ free .t5 c
          ∗ free .t6 c
          ∗ free .t7 c
          ∗ free .t11 c
          ∗ free .t13 c
          ∗ free .t1 c
          ∗ free .t4 c
          ∗ free .t8 c
          ∗ free .t9 c
          ∗ free .t10 c
          ∗ free .t12 c
          ∗ semVal (cell .bar c) 0
          ∗ held (c : Thread nD τ) xM.view fullShare (x c)
          ∗ held (c : Thread nD τ) xfM.view fullShare (x c)
          ∗ semVal ((c : Thread nD τ), .dma (lS 0)) 0
          ∗ owe c 2
          -∗ Q ⟨⟩)
        -∗ wp frame (wpE (defs₀ (F := F)) 𝒱₀ (c : Thread nD τ) none) Set.univ (k0_part2 (F := F) xM (Memref.isWhole_whole _) wM (Memref.isWhole_whole _) oM (Memref.isWhole_whole _) xfM (Memref.isWhole_whole _) xbM (Memref.isWhole_whole _) wlM (Memref.isWhole_whole _) wrM (Memref.isWhole_whole _) woaM (Memref.isWhole_whole _) wobM (Memref.isWhole_whole _) blM (Memref.isWhole_whole _) brM (Memref.isWhole_whole _) boaM (Memref.isWhole_whole _) bobM (Memref.isWhole_whole _) faM (Memref.isWhole_whole _) fbM (Memref.isWhole_whole _) ilM (Memref.isWhole_whole _) irM (Memref.isWhole_whole _) ioaM (Memref.isWhole_whole _) iobM (Memref.isWhole_whole _) smM (Memref.isWhole_whole _) slM (Memref.isWhole_whole _) srM (Memref.isWhole_whole _) soaM (Memref.isWhole_whole _) sobM (Memref.isWhole_whole _) cc0_scratch21 cc0_scratch22 cc0_scratch23 c v13 v24) Q) := by
  rw [k0_part2_eq_skeleton]; unfold k0_part2_skel
  simp only [semSignalWord, semWaitWord, Prog.lift, Prog.bind_op, Prog.bind_ret, Prog.pure_eq_ret]
  iintro ⟨#Hctx, HO, Tl, FR, Tr, FL, Hb, X, Xf, Zl0, G0, G2, Rd0, Rd2⟩ Hk
  iapply (wp_copy c 0 (by decide)) $$ [X Xf Zl0]
  · isplitl [X]; · iexact X
    isplitl [Xf]; · iexact Xf
    iexact Zl0
  iintro C0
  iapply (wp_sigL x w c (dev1 c)) $$ [HO Tl FR]
  · isplitr; · iexact Hctx
    isplitl [HO]; · iexact HO
    isplitl [Tl]; · iexact Tl
    iexact FR
  iintro HO
  iapply (wp_sigR x w c (dev2 c)) $$ [HO Tr FL]
  · isplitr; · iexact Hctx
    isplitl [HO]; · iexact HO
    isplitl [Tr]; · iexact Tr
    iexact FL
  iintro HO
  iapply (wp_meet x w c) $$ [Hb HO]
  · isplitr; · iexact Hctx
    isplitl [Hb]; · iexact Hb
    iexact HO
  iintro ⟨⟨HL, HR⟩, Zb, HO⟩
  unfold freeL freeR
  icases HL with ⟨Fr2, Fr3, Fr5, Fr6, Fr7, Fr11, Fr13⟩
  icases HR with ⟨Fr0, Fr1, Fr4, Fr8, Fr9, Fr10, Fr12⟩
  iapply (wp_start x w .t0 c (dev3 c) (p := 0) rfl) $$ [G0 Fr0 Rd0 HO]
  · isplitr; · iexact Hctx
    isplitl [G0]; · iexact G0
    isplitl [Fr0]; · iexact Fr0
    isplitl [Rd0]; · iexact Rd0
    iexact HO
  iintro ⟨Go0, HO⟩
  iapply (wp_start x w .t2 c (dev4 c) (p := 1) rfl) $$ [G2 Fr2 Rd2 HO]
  · isplitr; · iexact Hctx
    isplitl [G2]; · iexact G2
    isplitl [Fr2]; · iexact Fr2
    isplitl [Rd2]; · iexact Rd2
    iexact HO
  iintro ⟨Go2, HO⟩
  iapply (wp_copied x w c 0 (p := 2)) $$ [C0 HO]
  · isplitr; · iexact Hctx
    isplitl [C0]; · iexact C0
    iexact HO
  iintro ⟨⟨Xf, X⟩, Zl0, HO⟩
  rw [wp_ret]; imodintro
  iapply Hk
  isplitl [Go0]; · iexact Go0
  isplitl [Go2]; · iexact Go2
  isplitl [Fr3]; · iexact Fr3
  isplitl [Fr5]; · iexact Fr5
  isplitl [Fr6]; · iexact Fr6
  isplitl [Fr7]; · iexact Fr7
  isplitl [Fr11]; · iexact Fr11
  isplitl [Fr13]; · iexact Fr13
  isplitl [Fr1]; · iexact Fr1
  isplitl [Fr4]; · iexact Fr4
  isplitl [Fr8]; · iexact Fr8
  isplitl [Fr9]; · iexact Fr9
  isplitl [Fr10]; · iexact Fr10
  isplitl [Fr12]; · iexact Fr12
  isplitl [Zb]; · iexact Zb
  isplitl [X]; · iexact X
  isplitl [Xf]; · iexact Xf
  isplitl [Zl0]; · iexact Zl0
  iexact HO

/-- The rows rounded, the device's own piece of the result computed and on its way out, the first block of columns in and passed on. -/
theorem part3 (c : Dev nD) (v2 v24 : BitVec 32) {yb : S1024x4096.Idx → Elt F .bf16} {ym yo : S1024x512.Idx → Elt F .f32} {Q : PUnit → sProp 𝕄} :
    iprop(ctx x w
        ∗ held (c : Thread nD τ) xfM.view fullShare (x c)
        ∗ held (c : Thread nD τ) xbM.view fullShare yb
        ∗ held (c : Thread nD τ) wM.view fullShare.right (w c)
        ∗ held (c : Thread nD τ) smM.view fullShare ym
        ∗ held (c : Thread nD τ) (o1 c).view fullShare yo
        ∗ semVal ((c : Thread nD τ), .dma (lS 1)) 0
        ∗ owe c 2
        ∗ due .t0 c
        ∗ free .t4 c
        ∗ ready .t4 c)
      ⊢ iprop((held (c : Thread nD τ) xfM.view fullShare (x c)
          ∗ held (c : Thread nD τ) xbM.view fullShare (xb x c)
          ∗ held (c : Thread nD τ) wM.view fullShare.right (w c)
          ∗ copying c 1 smM (o1 c) (k0_pay2 (xb x c) (w c))
          ∗ held (c : Thread nD τ) (wlM.slice ka (fun _ => rfl)).view fullShare.right (wa w (lft c))
          ∗ semVal (cell (.rcv .t0) c) 0
          ∗ going .t4 c
          ∗ owe c 3
          -∗ Q ⟨⟩)
        -∗ wp frame (wpE (defs₀ (F := F)) 𝒱₀ (c : Thread nD τ) none) Set.univ (k0_part3 (F := F) xM (Memref.isWhole_whole _) wM (Memref.isWhole_whole _) oM (Memref.isWhole_whole _) xfM (Memref.isWhole_whole _) xbM (Memref.isWhole_whole _) wlM (Memref.isWhole_whole _) wrM (Memref.isWhole_whole _) woaM (Memref.isWhole_whole _) wobM (Memref.isWhole_whole _) blM (Memref.isWhole_whole _) brM (Memref.isWhole_whole _) boaM (Memref.isWhole_whole _) bobM (Memref.isWhole_whole _) faM (Memref.isWhole_whole _) fbM (Memref.isWhole_whole _) ilM (Memref.isWhole_whole _) irM (Memref.isWhole_whole _) ioaM (Memref.isWhole_whole _) iobM (Memref.isWhole_whole _) smM (Memref.isWhole_whole _) slM (Memref.isWhole_whole _) srM (Memref.isWhole_whole _) soaM (Memref.isWhole_whole _) sobM (Memref.isWhole_whole _) cc0_scratch21 cc0_scratch22 cc0_scratch23 c v2 v24) Q) := by
  rw [k0_part3_eq_skeleton]; unfold k0_part3_skel
  simp only [semSignalWord, semWaitWord, Prog.lift, Prog.bind_op, Prog.bind_ret, Prog.pure_eq_ret]
  iintro ⟨#Hctx, Xf, Xb, Wr, Sm, Om, Zl1, HO, Du0, Fr4, Rd4⟩ Hk
  iapply (wp_ld_full 𝒱₀ (c : Thread nD τ) none (funext fun a => by fin_cases a <;> rfl)) $$ [Xf]
  · iexact Xf
  iintro Xf
  iapply (wp_ld_full 𝒱₀ (c : Thread nD τ) none (funext fun a => by fin_cases a <;> rfl)) $$ [Xb]
  · iexact Xb
  iintro Xb
  iapply (wp_st_full 𝒱₀ (c : Thread nD τ) none (funext fun a => by fin_cases a <;> rfl)) $$ [Xb]
  · iexact Xb
  iintro Xb
  iapply (wp_ld_full 𝒱₀ (c : Thread nD τ) none (funext fun a => by fin_cases a <;> rfl)) $$ [Xb]
  · iexact Xb
  iintro Xb
  iapply (wp_ld_full 𝒱₀ (c : Thread nD τ) none (funext fun a => by fin_cases a <;> rfl)) $$ [Wr]
  · iexact Wr
  iintro Wr
  iapply (wp_ld_full 𝒱₀ (c : Thread nD τ) none (funext fun a => by fin_cases a <;> rfl)) $$ [Sm]
  · iexact Sm
  iintro Sm
  iapply (wp_st_full 𝒱₀ (c : Thread nD τ) none (funext fun a => by fin_cases a <;> rfl)) $$ [Sm]
  · iexact Sm
  iintro Sm
  iapply (wp_copy c 1 (by decide)) $$ [Sm Om Zl1]
  · isplitl [Sm]; · iexact Sm
    isplitl [Om]; · iexact Om
    iexact Zl1
  iintro C1
  iapply (wp_landed x w .t0 c (p := 2) (by decide) rfl) $$ [Du0 HO]
  · isplitr; · iexact Hctx
    isplitl [Du0]; · iexact Du0
    iexact HO
  iintro ⟨La0, Zr0, HO⟩
  ihave La0 := (Entails.of_eq (landed_t0 x w c)) $$ La0
  ihave La0 := (held_share (c : Thread nD τ) _ _ (PosShare.mem_left_op_right fullShare) _).1 $$ La0
  icases La0 with ⟨Lal, Lar⟩
  ihave G4 := (Entails.of_eq (gone_t4 x w c)) $$ Lal
  iapply (wp_start x w .t4 c (dev5 c) (p := 2) rfl) $$ [G4 Fr4 Rd4 HO]
  · isplitr; · iexact Hctx
    isplitl [G4]; · iexact G4
    isplitl [Fr4]; · iexact Fr4
    isplitl [Rd4]; · iexact Rd4
    iexact HO
  iintro ⟨Go4, HO⟩
  rw [wp_ret]; imodintro
  iapply Hk
  isplitl [Xf]; · iexact Xf
  isplitl [Xb]; · iexact Xb
  isplitl [Wr]; · iexact Wr
  isplitl [C1]; · iexact C1
  isplitl [Lar]; · iexact Lar
  isplitl [Zr0]; · iexact Zr0
  isplitl [Go4]; · iexact Go4
  iexact HO

/-- The second halves of the device's columns sent, the right neighbour's first block in and passed on. -/
theorem part4 (c : Dev nD) (v13 v24 : BitVec 32) {Q : PUnit → sProp 𝕄} :
    iprop(ctx x w
        ∗ gone x w .t1 c
        ∗ free .t1 c
        ∗ ready .t1 c
        ∗ due .t2 c
        ∗ free .t5 c
        ∗ ready .t5 c
        ∗ owe c 3)
      ⊢ iprop((going .t1 c
          ∗ semVal (cell (.rcv .t2) c) 0
          ∗ going .t5 c
          ∗ held (c : Thread nD τ) (wrM.slice kb (fun _ => rfl)).view fullShare.right (wb w (rgt c))
          ∗ owe c 5
          -∗ Q ⟨⟩)
        -∗ wp frame (wpE (defs₀ (F := F)) 𝒱₀ (c : Thread nD τ) none) Set.univ (k0_part4 (F := F) xM (Memref.isWhole_whole _) wM (Memref.isWhole_whole _) oM (Memref.isWhole_whole _) xfM (Memref.isWhole_whole _) xbM (Memref.isWhole_whole _) wlM (Memref.isWhole_whole _) wrM (Memref.isWhole_whole _) woaM (Memref.isWhole_whole _) wobM (Memref.isWhole_whole _) blM (Memref.isWhole_whole _) brM (Memref.isWhole_whole _) boaM (Memref.isWhole_whole _) bobM (Memref.isWhole_whole _) faM (Memref.isWhole_whole _) fbM (Memref.isWhole_whole _) ilM (Memref.isWhole_whole _) irM (Memref.isWhole_whole _) ioaM (Memref.isWhole_whole _) iobM (Memref.isWhole_whole _) smM (Memref.isWhole_whole _) slM (Memref.isWhole_whole _) srM (Memref.isWhole_whole _) soaM (Memref.isWhole_whole _) sobM (Memref.isWhole_whole _) cc0_scratch21 cc0_scratch22 cc0_scratch23 c v13 v24) Q) := by
  rw [k0_part4_eq_skeleton]; unfold k0_part4_skel
  simp only [semSignalWord, semWaitWord, Prog.lift, Prog.bind_op, Prog.bind_ret, Prog.pure_eq_ret]
  iintro ⟨#Hctx, G1, Fr1, Rd1, Du2, Fr5, Rd5, HO⟩ Hk
  iapply (wp_start x w .t1 c (dev6 c) (p := 3) rfl) $$ [G1 Fr1 Rd1 HO]
  · isplitr; · iexact Hctx
    isplitl [G1]; · iexact G1
    isplitl [Fr1]; · iexact Fr1
    isplitl [Rd1]; · iexact Rd1
    iexact HO
  iintro ⟨Go1, HO⟩
  iapply (wp_landed x w .t2 c (p := 4) (by decide) rfl) $$ [Du2 HO]
  · isplitr; · iexact Hctx
    isplitl [Du2]; · iexact Du2
    iexact HO
  iintro ⟨La2, Zr2, HO⟩
  ihave La2 := (Entails.of_eq (landed_t2 x w c)) $$ La2
  ihave La2 := (held_share (c : Thread nD τ) _ _ (PosShare.mem_left_op_right fullShare) _).1 $$ La2
  icases La2 with ⟨Lbl, Lbr⟩
  ihave G5 := (Entails.of_eq (gone_t5 x w c)) $$ Lbl
  iapply (wp_start x w .t5 c (dev7 c) (p := 4) rfl) $$ [G5 Fr5 Rd5 HO]
  · isplitr; · iexact Hctx
    isplitl [G5]; · iexact G5
    isplitl [Fr5]; · iexact Fr5
    isplitl [Rd5]; · iexact Rd5
    iexact HO
  iintro ⟨Go5, HO⟩
  rw [wp_ret]; imodintro
  iapply Hk
  isplitl [Go1]; · iexact Go1
  isplitl [Zr2]; · iexact Zr2
  isplitl [Go5]; · iexact Go5
  isplitl [Lbr]; · iexact Lbr
  iexact HO

/-- The products with both neighbours' first blocks, the left one sent back. -/
theorem part5 (c : Dev nD) (v13 v24 : BitVec 32) {yl yr : S1024x256.Idx → Elt F .bf16} {Q : PUnit → sProp 𝕄} :
    iprop(ctx x w
        ∗ gone x w .t3 c
        ∗ free .t3 c
        ∗ ready .t3 c
        ∗ held (c : Thread nD τ) xbM.view fullShare (xb x c)
        ∗ held (c : Thread nD τ) (wlM.slice ka (fun _ => rfl)).view fullShare.right (wa w (lft c))
        ∗ held (c : Thread nD τ) (blM.slice ja (fun _ => rfl)).view fullShare yl
        ∗ held (c : Thread nD τ) (wrM.slice kb (fun _ => rfl)).view fullShare.right (wb w (rgt c))
        ∗ held (c : Thread nD τ) (brM.slice jb (fun _ => rfl)).view fullShare yr
        ∗ free .t6 c
        ∗ ready .t6 c
        ∗ owe c 5)
      ⊢ iprop((going .t3 c
          ∗ going .t6 c
          ∗ gone x w .t8 c
          ∗ held (c : Thread nD τ) xbM.view fullShare (xb x c)
          ∗ held (c : Thread nD τ) (wlM.slice ka (fun _ => rfl)).view fullShare.right (wa w (lft c))
          ∗ held (c : Thread nD τ) (wrM.slice kb (fun _ => rfl)).view fullShare.right (wb w (rgt c))
          ∗ owe c 7
          -∗ Q ⟨⟩)
        -∗ wp frame (wpE (defs₀ (F := F)) 𝒱₀ (c : Thread nD τ) none) Set.univ (k0_part5 (F := F) xM (Memref.isWhole_whole _) wM (Memref.isWhole_whole _) oM (Memref.isWhole_whole _) xfM (Memref.isWhole_whole _) xbM (Memref.isWhole_whole _) wlM (Memref.isWhole_whole _) wrM (Memref.isWhole_whole _) woaM (Memref.isWhole_whole _) wobM (Memref.isWhole_whole _) blM (Memref.isWhole_whole _) brM (Memref.isWhole_whole _) boaM (Memref.isWhole_whole _) bobM (Memref.isWhole_whole _) faM (Memref.isWhole_whole _) fbM (Memref.isWhole_whole _) ilM (Memref.isWhole_whole _) irM (Memref.isWhole_whole _) ioaM (Memref.isWhole_whole _) iobM (Memref.isWhole_whole _) smM (Memref.isWhole_whole _) slM (Memref.isWhole_whole _) srM (Memref.isWhole_whole _) soaM (Memref.isWhole_whole _) sobM (Memref.isWhole_whole _) cc0_scratch21 cc0_scratch22 cc0_scratch23 c v13 v24) Q) := by
  rw [k0_part5_eq_skeleton]; unfold k0_part5_skel
  simp only [semSignalWord, semWaitWord, Prog.lift, Prog.bind_op, Prog.bind_ret, Prog.pure_eq_ret]
  iintro ⟨#Hctx, G3, Fr3, Rd3, Xb, Lar, Bl, Lbr, Br, Fr6, Rd6, HO⟩ Hk
  iapply (wp_start x w .t3 c (dev8 c) (p := 5) rfl) $$ [G3 Fr3 Rd3 HO]
  · isplitr; · iexact Hctx
    isplitl [G3]; · iexact G3
    isplitl [Fr3]; · iexact Fr3
    isplitl [Rd3]; · iexact Rd3
    iexact HO
  iintro ⟨Go3, HO⟩
  iapply (wp_ld_full 𝒱₀ (c : Thread nD τ) none (funext fun a => by fin_cases a <;> rfl)) $$ [Xb]
  · iexact Xb
  iintro Xb
  iapply (wp_ld 𝒱₀ (c : Thread nD τ) none) $$ [Lar]
  · iexact Lar
  iintro Lar
  iapply (wp_ld 𝒱₀ (c : Thread nD τ) none) $$ [Bl]
  · iexact Bl
  iintro Bl
  iapply (wp_st 𝒱₀ (c : Thread nD τ) none) $$ [Bl]
  · iexact Bl
  iintro Bl
  ihave G6 := (Entails.of_eq (gone_t6 x w c)) $$ Bl
  iapply (wp_start x w .t6 c (dev9 c) (p := 6) rfl) $$ [G6 Fr6 Rd6 HO]
  · isplitr; · iexact Hctx
    isplitl [G6]; · iexact G6
    isplitl [Fr6]; · iexact Fr6
    isplitl [Rd6]; · iexact Rd6
    iexact HO
  iintro ⟨Go6, HO⟩
  iapply (wp_ld_full 𝒱₀ (c : Thread nD τ) none (funext fun a => by fin_cases a <;> rfl)) $$ [Xb]
  · iexact Xb
  iintro Xb
  iapply (wp_ld 𝒱₀ (c : Thread nD τ) none) $$ [Lbr]
  · iexact Lbr
  iintro Lbr
  iapply (wp_ld 𝒱₀ (c : Thread nD τ) none) $$ [Br]
  · iexact Br
  iintro Br
  iapply (wp_st 𝒱₀ (c : Thread nD τ) none) $$ [Br]
  · iexact Br
  iintro Br
  ihave G8 := (Entails.of_eq (gone_t8 x w c)) $$ Br
  rw [wp_ret]; imodintro
  iapply Hk
  isplitl [Go3]; · iexact Go3
  isplitl [Go6]; · iexact Go6
  isplitl [G8]; · iexact G8
  isplitl [Xb]; · iexact Xb
  isplitl [Lar]; · iexact Lar
  isplitl [Lbr]; · iexact Lbr
  iexact HO

/-- The right product sent back; the opposite device's columns' first half in, its product sent on; the second half in. -/
theorem part6 (c : Dev nD) (v13 v24 : BitVec 32) {ya : S1024x256.Idx → Elt F .bf16} {Q : Vec F S1024x4096 .bf16 → sProp 𝕄} :
    iprop(ctx x w
        ∗ gone x w .t8 c
        ∗ free .t8 c
        ∗ ready .t8 c
        ∗ due .t4 c
        ∗ held (c : Thread nD τ) xbM.view fullShare (xb x c)
        ∗ held (c : Thread nD τ) boaM.view fullShare ya
        ∗ free .t10 c
        ∗ ready .t10 c
        ∗ due .t5 c
        ∗ owe c 7)
      ⊢ iprop((going .t8 c
          ∗ landed x w .t4 c
          ∗ semVal (cell (.rcv .t4) c) 0
          ∗ going .t10 c
          ∗ landed x w .t5 c
          ∗ semVal (cell (.rcv .t5) c) 0
          ∗ held (c : Thread nD τ) xbM.view fullShare (xb x c)
          ∗ owe c 9
          -∗ Q (xb x c))
        -∗ wp frame (wpE (defs₀ (F := F)) 𝒱₀ (c : Thread nD τ) none) Set.univ (k0_part6 (F := F) xM (Memref.isWhole_whole _) wM (Memref.isWhole_whole _) oM (Memref.isWhole_whole _) xfM (Memref.isWhole_whole _) xbM (Memref.isWhole_whole _) wlM (Memref.isWhole_whole _) wrM (Memref.isWhole_whole _) woaM (Memref.isWhole_whole _) wobM (Memref.isWhole_whole _) blM (Memref.isWhole_whole _) brM (Memref.isWhole_whole _) boaM (Memref.isWhole_whole _) bobM (Memref.isWhole_whole _) faM (Memref.isWhole_whole _) fbM (Memref.isWhole_whole _) ilM (Memref.isWhole_whole _) irM (Memref.isWhole_whole _) ioaM (Memref.isWhole_whole _) iobM (Memref.isWhole_whole _) smM (Memref.isWhole_whole _) slM (Memref.isWhole_whole _) srM (Memref.isWhole_whole _) soaM (Memref.isWhole_whole _) sobM (Memref.isWhole_whole _) cc0_scratch21 cc0_scratch22 cc0_scratch23 c v13 v24) Q) := by
  rw [k0_part6_eq_skeleton]; unfold k0_part6_skel
  simp only [semSignalWord, semWaitWord, Prog.lift, Prog.bind_op, Prog.bind_ret, Prog.pure_eq_ret]
  iintro ⟨#Hctx, G8, Fr8, Rd8, Du4, Xb, Boa, Fr10, Rd10, Du5, HO⟩ Hk
  iapply (wp_start x w .t8 c (dev10 c) (p := 7) rfl) $$ [G8 Fr8 Rd8 HO]
  · isplitr; · iexact Hctx
    isplitl [G8]; · iexact G8
    isplitl [Fr8]; · iexact Fr8
    isplitl [Rd8]; · iexact Rd8
    iexact HO
  iintro ⟨Go8, HO⟩
  iapply (wp_landed x w .t4 c (p := 8) (by decide) rfl) $$ [Du4 HO]
  · isplitr; · iexact Hctx
    isplitl [Du4]; · iexact Du4
    iexact HO
  iintro ⟨La4, Zr4, HO⟩
  iapply (wp_ld_full 𝒱₀ (c : Thread nD τ) none (funext fun a => by fin_cases a <;> rfl)) $$ [Xb]
  · iexact Xb
  iintro Xb
  ihave La4 := (Entails.of_eq (landed_t4 x w c)) $$ La4
  iapply (wp_ld_full 𝒱₀ (c : Thread nD τ) none (funext fun a => by fin_cases a <;> rfl)) $$ [La4]
  · iexact La4
  iintro La4
  ihave La4 := (Entails.of_eq (landed_t4 x w c).symm) $$ La4
  iapply (wp_ld_full 𝒱₀ (c : Thread nD τ) none (funext fun a => by fin_cases a <;> rfl)) $$ [Boa]
  · iexact Boa
  iintro Boa
  iapply (wp_st_full 𝒱₀ (c : Thread nD τ) none (funext fun a => by fin_cases a <;> rfl)) $$ [Boa]
  · iexact Boa
  iintro Boa
  ihave G10 := (Entails.of_eq (gone_t10 x w c)) $$ Boa
  iapply (wp_start x w .t10 c (dev11 c) (p := 8) rfl) $$ [G10 Fr10 Rd10 HO]
  · isplitr; · iexact Hctx
    isplitl [G10]; · iexact G10
    isplitl [Fr10]; · iexact Fr10
    isplitl [Rd10]; · iexact Rd10
    iexact HO
  iintro ⟨Go10, HO⟩
  iapply (wp_landed x w .t5 c (p := 9) (by decide) rfl) $$ [Du5 HO]
  · isplitr; · iexact Hctx
    isplitl [Du5]; · iexact Du5
    iexact HO
  iintro ⟨La5, Zr5, HO⟩
  iapply (wp_ld_full 𝒱₀ (c : Thread nD τ) none (funext fun a => by fin_cases a <;> rfl)) $$ [Xb]
  · iexact Xb
  iintro Xb
  rw [wp_ret]; imodintro
  iapply Hk
  isplitl [Go8]; · iexact Go8
  isplitl [La4]; · iexact La4
  isplitl [Zr4]; · iexact Zr4
  isplitl [Go10]; · iexact Go10
  isplitl [La5]; · iexact La5
  isplitl [Zr5]; · iexact Zr5
  isplitl [Xb]; · iexact Xb
  iexact HO

end Cert.Ring

end
-- ==== Proof.PartsB.lean ====
/-
# `PartsB`: the kernel's stretches from the products passed on to the last product

What each stretch of the kernel needs and leaves, on a device `c` of the ring: the blocks it reads and writes, the transfers
it starts and waits for, the copies it starts and waits for. Every statement names only what its stretch touches.
-/
module

public import proofs.«01_k».proof.Proof.Steps

@[expose] public section

noncomputable section

namespace Cert.Ring

open Cert.KernelIdeal Cert.KernelIdeal.Gen Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → S1024x4096.Idx → Elt F .f32) (w : Dev nD → S4096x512.Idx → Elt F .bf16)

/-- The opposite device's second product sent on; the right neighbour's first product in and on its way out. -/
theorem part7 (c : Dev nD) (v13 v24 : BitVec 32) {yb : S1024x256.Idx → Elt F .bf16} {ys yo : S1024x256.Idx → Elt F .f32} {Q : PUnit → sProp 𝕄} :
    iprop(ctx x w
        ∗ landed x w .t5 c
        ∗ held (c : Thread nD τ) bobM.view fullShare yb
        ∗ free .t11 c
        ∗ ready .t11 c
        ∗ due .t6 c
        ∗ held (c : Thread nD τ) (srM.slice ja (fun _ => rfl)).view fullShare ys
        ∗ semVal ((c : Thread nD τ), .dma (lS 2)) 0
        ∗ held (c : Thread nD τ) (o2 c).view fullShare yo
        ∗ owe c 9)
      ⊢ iprop((landed x w .t5 c
          ∗ going .t11 c
          ∗ landed x w .t6 c
          ∗ semVal (cell (.rcv .t6) c) 0
          ∗ copying c 2 (srM.slice ja (fun _ => rfl)) (o2 c) (k0_pay7 (Tr.val x w (rgt c) .t6))
          ∗ owe c 10
          -∗ Q ⟨⟩)
        -∗ wp frame (wpE (defs₀ (F := F)) 𝒱₀ (c : Thread nD τ) none) Set.univ (k0_part7 (F := F) xM (Memref.isWhole_whole _) wM (Memref.isWhole_whole _) oM (Memref.isWhole_whole _) xfM (Memref.isWhole_whole _) xbM (Memref.isWhole_whole _) wlM (Memref.isWhole_whole _) wrM (Memref.isWhole_whole _) woaM (Memref.isWhole_whole _) wobM (Memref.isWhole_whole _) blM (Memref.isWhole_whole _) brM (Memref.isWhole_whole _) boaM (Memref.isWhole_whole _) bobM (Memref.isWhole_whole _) faM (Memref.isWhole_whole _) fbM (Memref.isWhole_whole _) ilM (Memref.isWhole_whole _) irM (Memref.isWhole_whole _) ioaM (Memref.isWhole_whole _) iobM (Memref.isWhole_whole _) smM (Memref.isWhole_whole _) slM (Memref.isWhole_whole _) srM (Memref.isWhole_whole _) soaM (Memref.isWhole_whole _) sobM (Memref.isWhole_whole _) cc0_scratch21 cc0_scratch22 cc0_scratch23 c v13 v24 (xb x c)) Q) := by
  rw [k0_part7_eq_skeleton]; unfold k0_part7_skel
  simp only [semSignalWord, semWaitWord, Prog.lift, Prog.bind_op, Prog.bind_ret, Prog.pure_eq_ret]
  iintro ⟨#Hctx, La5, Bob, Fr11, Rd11, Du6, Sr, Zl2, Om, HO⟩ Hk
  ihave La5 := (Entails.of_eq (landed_t5 x w c)) $$ La5
  iapply (wp_ld_full 𝒱₀ (c : Thread nD τ) none (funext fun a => by fin_cases a <;> rfl)) $$ [La5]
  · iexact La5
  iintro La5
  ihave La5 := (Entails.of_eq (landed_t5 x w c).symm) $$ La5
  iapply (wp_ld_full 𝒱₀ (c : Thread nD τ) none (funext fun a => by fin_cases a <;> rfl)) $$ [Bob]
  · iexact Bob
  iintro Bob
  iapply (wp_st_full 𝒱₀ (c : Thread nD τ) none (funext fun a => by fin_cases a <;> rfl)) $$ [Bob]
  · iexact Bob
  iintro Bob
  ihave G11 := (Entails.of_eq (gone_t11 x w c)) $$ Bob
  iapply (wp_start x w .t11 c (dev12 c) (p := 9) rfl) $$ [G11 Fr11 Rd11 HO]
  · isplitr; · iexact Hctx
    isplitl [G11]; · iexact G11
    isplitl [Fr11]; · iexact Fr11
    isplitl [Rd11]; · iexact Rd11
    iexact HO
  iintro ⟨Go11, HO⟩
  iapply (wp_landed x w .t6 c (p := 10) (by decide) rfl) $$ [Du6 HO]
  · isplitr; · iexact Hctx
    isplitl [Du6]; · iexact Du6
    iexact HO
  iintro ⟨La6, Zr6, HO⟩
  ihave La6 := (Entails.of_eq (landed_t6 x w c)) $$ La6
  iapply (wp_ld 𝒱₀ (c : Thread nD τ) none) $$ [La6]
  · iexact La6
  iintro La6
  ihave La6 := (Entails.of_eq (landed_t6 x w c).symm) $$ La6
  iapply (wp_ld 𝒱₀ (c : Thread nD τ) none) $$ [Sr]
  · iexact Sr
  iintro Sr
  iapply (wp_st 𝒱₀ (c : Thread nD τ) none) $$ [Sr]
  · iexact Sr
  iintro Sr
  iapply (wp_copy c 2 (by decide)) $$ [Sr Om Zl2]
  · isplitl [Sr]; · iexact Sr
    isplitl [Om]; · iexact Om
    iexact Zl2
  iintro C2
  rw [wp_ret]; imodintro
  iapply Hk
  isplitl [La5]; · iexact La5
  isplitl [Go11]; · iexact Go11
  isplitl [La6]; · iexact La6
  isplitl [Zr6]; · iexact Zr6
  isplitl [C2]; · iexact C2
  iexact HO

/-- The left neighbour's first product in and on its way out; the product to pass on to the right in and passed on. -/
theorem part8 (c : Dev nD) (v13 v24 : BitVec 32) {ys yo : S1024x256.Idx → Elt F .f32} {Q : (Σ' (_ : BitVec 32), BitVec 32) → sProp 𝕄} :
    iprop(ctx x w
        ∗ due .t8 c
        ∗ held (c : Thread nD τ) (slM.slice jb (fun _ => rfl)).view fullShare ys
        ∗ semVal ((c : Thread nD τ), .dma (lS 3)) 0
        ∗ held (c : Thread nD τ) (o3 c).view fullShare yo
        ∗ due .t10 c
        ∗ free .t12 c
        ∗ ready .t12 c
        ∗ owe c 10)
      ⊢ iprop((landed x w .t8 c
          ∗ semVal (cell (.rcv .t8) c) 0
          ∗ semVal (cell (.rcv .t10) c) 0
          ∗ going .t12 c
          ∗ copying c 3 (slM.slice jb (fun _ => rfl)) (o3 c) (k0_pay7 (Tr.val x w (lft c) .t8))
          ∗ owe c 11
          -∗ Q ⟨Scalar.muli v13 1#32, 0#32⟩)
        -∗ wp frame (wpE (defs₀ (F := F)) 𝒱₀ (c : Thread nD τ) none) Set.univ (k0_part8 (F := F) xM (Memref.isWhole_whole _) wM (Memref.isWhole_whole _) oM (Memref.isWhole_whole _) xfM (Memref.isWhole_whole _) xbM (Memref.isWhole_whole _) wlM (Memref.isWhole_whole _) wrM (Memref.isWhole_whole _) woaM (Memref.isWhole_whole _) wobM (Memref.isWhole_whole _) blM (Memref.isWhole_whole _) brM (Memref.isWhole_whole _) boaM (Memref.isWhole_whole _) bobM (Memref.isWhole_whole _) faM (Memref.isWhole_whole _) fbM (Memref.isWhole_whole _) ilM (Memref.isWhole_whole _) irM (Memref.isWhole_whole _) ioaM (Memref.isWhole_whole _) iobM (Memref.isWhole_whole _) smM (Memref.isWhole_whole _) slM (Memref.isWhole_whole _) srM (Memref.isWhole_whole _) soaM (Memref.isWhole_whole _) sobM (Memref.isWhole_whole _) cc0_scratch21 cc0_scratch22 cc0_scratch23 c v13 v24) Q) := by
  rw [k0_part8_eq_skeleton]; unfold k0_part8_skel
  simp only [semSignalWord, semWaitWord, Prog.lift, Prog.bind_op, Prog.bind_ret, Prog.pure_eq_ret]
  iintro ⟨#Hctx, Du8, Sl, Zl3, Om, Du10, Fr12, Rd12, HO⟩ Hk
  iapply (wp_landed x w .t8 c (p := 10) (by decide) rfl) $$ [Du8 HO]
  · isplitr; · iexact Hctx
    isplitl [Du8]; · iexact Du8
    iexact HO
  iintro ⟨La8, Zr8, HO⟩
  ihave La8 := (Entails.of_eq (landed_t8 x w c)) $$ La8
  iapply (wp_ld 𝒱₀ (c : Thread nD τ) none) $$ [La8]
  · iexact La8
  iintro La8
  ihave La8 := (Entails.of_eq (landed_t8 x w c).symm) $$ La8
  iapply (wp_ld 𝒱₀ (c : Thread nD τ) none) $$ [Sl]
  · iexact Sl
  iintro Sl
  iapply (wp_st 𝒱₀ (c : Thread nD τ) none) $$ [Sl]
  · iexact Sl
  iintro Sl
  iapply (wp_copy c 3 (by decide)) $$ [Sl Om Zl3]
  · isplitl [Sl]; · iexact Sl
    isplitl [Om]; · iexact Om
    iexact Zl3
  iintro C3
  iapply (wp_landed x w .t10 c (p := 10) (by decide) rfl) $$ [Du10 HO]
  · isplitr; · iexact Hctx
    isplitl [Du10]; · iexact Du10
    iexact HO
  iintro ⟨La10, Zr10, HO⟩
  ihave La10 := (Entails.of_eq (landed_t10 x w c)) $$ La10
  ihave G12 := (Entails.of_eq (gone_t12 x w c)) $$ La10
  iapply (wp_start x w .t12 c (dev13 c) (p := 10) rfl) $$ [G12 Fr12 Rd12 HO]
  · isplitr; · iexact Hctx
    isplitl [G12]; · iexact G12
    isplitl [Fr12]; · iexact Fr12
    isplitl [Rd12]; · iexact Rd12
    iexact HO
  iintro ⟨Go12, HO⟩
  rw [wp_ret]; imodintro
  iapply Hk
  isplitl [La8]; · iexact La8
  isplitl [Zr8]; · iexact Zr8
  isplitl [Zr10]; · iexact Zr10
  isplitl [Go12]; · iexact Go12
  isplitl [C3]; · iexact C3
  iexact HO

/-- The product to pass on to the left in and passed on; the left neighbour's second half of columns in, and its product. -/
theorem part9 (c : Dev nD) (v13 v24 v1 v3 : BitVec 32) {yl : S1024x256.Idx → Elt F .bf16} {Q : PUnit → sProp 𝕄} :
    iprop(ctx x w
        ∗ due .t11 c
        ∗ free .t13 c
        ∗ ready .t13 c
        ∗ due .t1 c
        ∗ held (c : Thread nD τ) xbM.view fullShare (xb x c)
        ∗ held (c : Thread nD τ) (blM.slice jb (fun _ => rfl)).view fullShare yl
        ∗ owe c 11)
      ⊢ iprop((semVal (cell (.rcv .t11) c) 0
          ∗ going .t13 c
          ∗ landed x w .t1 c
          ∗ semVal (cell (.rcv .t1) c) 0
          ∗ gone x w .t7 c
          ∗ held (c : Thread nD τ) xbM.view fullShare (xb x c)
          ∗ owe c 12
          -∗ Q ⟨⟩)
        -∗ wp frame (wpE (defs₀ (F := F)) 𝒱₀ (c : Thread nD τ) none) Set.univ (k0_part9 (F := F) xM (Memref.isWhole_whole _) wM (Memref.isWhole_whole _) oM (Memref.isWhole_whole _) xfM (Memref.isWhole_whole _) xbM (Memref.isWhole_whole _) wlM (Memref.isWhole_whole _) wrM (Memref.isWhole_whole _) woaM (Memref.isWhole_whole _) wobM (Memref.isWhole_whole _) blM (Memref.isWhole_whole _) brM (Memref.isWhole_whole _) boaM (Memref.isWhole_whole _) bobM (Memref.isWhole_whole _) faM (Memref.isWhole_whole _) fbM (Memref.isWhole_whole _) ilM (Memref.isWhole_whole _) irM (Memref.isWhole_whole _) ioaM (Memref.isWhole_whole _) iobM (Memref.isWhole_whole _) smM (Memref.isWhole_whole _) slM (Memref.isWhole_whole _) srM (Memref.isWhole_whole _) soaM (Memref.isWhole_whole _) sobM (Memref.isWhole_whole _) cc0_scratch21 cc0_scratch22 cc0_scratch23 c v13 v24 v1 v3) Q) := by
  rw [k0_part9_eq_skeleton]; unfold k0_part9_skel
  simp only [semSignalWord, semWaitWord, Prog.lift, Prog.bind_op, Prog.bind_ret, Prog.pure_eq_ret]
  iintro ⟨#Hctx, Du11, Fr13, Rd13, Du1, Xb, Bl, HO⟩ Hk
  iapply (wp_landed x w .t11 c (p := 11) (by decide) rfl) $$ [Du11 HO]
  · isplitr; · iexact Hctx
    isplitl [Du11]; · iexact Du11
    iexact HO
  iintro ⟨La11, Zr11, HO⟩
  ihave La11 := (Entails.of_eq (landed_t11 x w c)) $$ La11
  ihave G13 := (Entails.of_eq (gone_t13 x w c)) $$ La11
  iapply (wp_start x w .t13 c (dev14 c) (p := 11) rfl) $$ [G13 Fr13 Rd13 HO]
  · isplitr; · iexact Hctx
    isplitl [G13]; · iexact G13
    isplitl [Fr13]; · iexact Fr13
    isplitl [Rd13]; · iexact Rd13
    iexact HO
  iintro ⟨Go13, HO⟩
  iapply (wp_landed x w .t1 c (p := 12) (by decide) rfl) $$ [Du1 HO]
  · isplitr; · iexact Hctx
    isplitl [Du1]; · iexact Du1
    iexact HO
  iintro ⟨La1, Zr1, HO⟩
  iapply (wp_ld_full 𝒱₀ (c : Thread nD τ) none (funext fun a => by fin_cases a <;> rfl)) $$ [Xb]
  · iexact Xb
  iintro Xb
  ihave La1 := (Entails.of_eq (landed_t1 x w c)) $$ La1
  iapply (wp_ld 𝒱₀ (c : Thread nD τ) none) $$ [La1]
  · iexact La1
  iintro La1
  ihave La1 := (Entails.of_eq (landed_t1 x w c).symm) $$ La1
  iapply (wp_ld 𝒱₀ (c : Thread nD τ) none) $$ [Bl]
  · iexact Bl
  iintro Bl
  iapply (wp_st 𝒱₀ (c : Thread nD τ) none) $$ [Bl]
  · iexact Bl
  iintro Bl
  ihave G7 := (Entails.of_eq (gone_t7 x w c)) $$ Bl
  rw [wp_ret]; imodintro
  iapply Hk
  isplitl [Zr11]; · iexact Zr11
  isplitl [Go13]; · iexact Go13
  isplitl [La1]; · iexact La1
  isplitl [Zr1]; · iexact Zr1
  isplitl [G7]; · iexact G7
  isplitl [Xb]; · iexact Xb
  iexact HO

/-- It is sent back; the right neighbour's second half of columns in, its product sent back; the opposite device's first product in. -/
theorem part10 (c : Dev nD) (v13 v24 : BitVec 32) {yr : S1024x256.Idx → Elt F .bf16} {Q : PUnit → sProp 𝕄} :
    iprop(ctx x w
        ∗ gone x w .t7 c
        ∗ free .t7 c
        ∗ ready .t7 c
        ∗ due .t3 c
        ∗ held (c : Thread nD τ) xbM.view fullShare (xb x c)
        ∗ held (c : Thread nD τ) (brM.slice ja (fun _ => rfl)).view fullShare yr
        ∗ free .t9 c
        ∗ ready .t9 c
        ∗ due .t12 c
        ∗ owe c 12)
      ⊢ iprop((going .t7 c
          ∗ landed x w .t3 c
          ∗ semVal (cell (.rcv .t3) c) 0
          ∗ going .t9 c
          ∗ landed x w .t12 c
          ∗ semVal (cell (.rcv .t12) c) 0
          ∗ held (c : Thread nD τ) xbM.view fullShare (xb x c)
          ∗ owe c 14
          -∗ Q ⟨⟩)
        -∗ wp frame (wpE (defs₀ (F := F)) 𝒱₀ (c : Thread nD τ) none) Set.univ (k0_part10 (F := F) xM (Memref.isWhole_whole _) wM (Memref.isWhole_whole _) oM (Memref.isWhole_whole _) xfM (Memref.isWhole_whole _) xbM (Memref.isWhole_whole _) wlM (Memref.isWhole_whole _) wrM (Memref.isWhole_whole _) woaM (Memref.isWhole_whole _) wobM (Memref.isWhole_whole _) blM (Memref.isWhole_whole _) brM (Memref.isWhole_whole _) boaM (Memref.isWhole_whole _) bobM (Memref.isWhole_whole _) faM (Memref.isWhole_whole _) fbM (Memref.isWhole_whole _) ilM (Memref.isWhole_whole _) irM (Memref.isWhole_whole _) ioaM (Memref.isWhole_whole _) iobM (Memref.isWhole_whole _) smM (Memref.isWhole_whole _) slM (Memref.isWhole_whole _) srM (Memref.isWhole_whole _) soaM (Memref.isWhole_whole _) sobM (Memref.isWhole_whole _) cc0_scratch21 cc0_scratch22 cc0_scratch23 c v13 v24) Q) := by
  rw [k0_part10_eq_skeleton]; unfold k0_part10_skel
  simp only [semSignalWord, semWaitWord, Prog.lift, Prog.bind_op, Prog.bind_ret, Prog.pure_eq_ret]
  iintro ⟨#Hctx, G7, Fr7, Rd7, Du3, Xb, Br, Fr9, Rd9, Du12, HO⟩ Hk
  iapply (wp_start x w .t7 c (dev15 c) (p := 12) rfl) $$ [G7 Fr7 Rd7 HO]
  · isplitr; · iexact Hctx
    isplitl [G7]; · iexact G7
    isplitl [Fr7]; · iexact Fr7
    isplitl [Rd7]; · iexact Rd7
    iexact HO
  iintro ⟨Go7, HO⟩
  iapply (wp_landed x w .t3 c (p := 13) (by decide) rfl) $$ [Du3 HO]
  · isplitr; · iexact Hctx
    isplitl [Du3]; · iexact Du3
    iexact HO
  iintro ⟨La3, Zr3, HO⟩
  iapply (wp_ld_full 𝒱₀ (c : Thread nD τ) none (funext fun a => by fin_cases a <;> rfl)) $$ [Xb]
  · iexact Xb
  iintro Xb
  ihave La3 := (Entails.of_eq (landed_t3 x w c)) $$ La3
  iapply (wp_ld 𝒱₀ (c : Thread nD τ) none) $$ [La3]
  · iexact La3
  iintro La3
  ihave La3 := (Entails.of_eq (landed_t3 x w c).symm) $$ La3
  iapply (wp_ld 𝒱₀ (c : Thread nD τ) none) $$ [Br]
  · iexact Br
  iintro Br
  iapply (wp_st 𝒱₀ (c : Thread nD τ) none) $$ [Br]
  · iexact Br
  iintro Br
  ihave G9 := (Entails.of_eq (gone_t9 x w c)) $$ Br
  iapply (wp_start x w .t9 c (dev16 c) (p := 13) rfl) $$ [G9 Fr9 Rd9 HO]
  · isplitr; · iexact Hctx
    isplitl [G9]; · iexact G9
    isplitl [Fr9]; · iexact Fr9
    isplitl [Rd9]; · iexact Rd9
    iexact HO
  iintro ⟨Go9, HO⟩
  iapply (wp_landed x w .t12 c (p := 14) (by decide) rfl) $$ [Du12 HO]
  · isplitr; · iexact Hctx
    isplitl [Du12]; · iexact Du12
    iexact HO
  iintro ⟨La12, Zr12, HO⟩
  rw [wp_ret]; imodintro
  iapply Hk
  isplitl [Go7]; · iexact Go7
  isplitl [La3]; · iexact La3
  isplitl [Zr3]; · iexact Zr3
  isplitl [Go9]; · iexact Go9
  isplitl [La12]; · iexact La12
  isplitl [Zr12]; · iexact Zr12
  isplitl [Xb]; · iexact Xb
  iexact HO

end Cert.Ring

end
-- ==== Proof.PartsC.lean ====
/-
# `PartsC`: the kernel's stretches that finish the result

What each stretch of the kernel needs and leaves, on a device `c` of the ring: the blocks it reads and writes, the transfers
it starts and waits for, the copies it starts and waits for. Every statement names only what its stretch touches.
-/
module

public import proofs.«01_k».proof.Proof.Steps

@[expose] public section

noncomputable section

namespace Cert.Ring

open Cert.KernelIdeal Cert.KernelIdeal.Gen Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → S1024x4096.Idx → Elt F .f32) (w : Dev nD → S4096x512.Idx → Elt F .bf16)

/-- The opposite device's two products on their way out; the right neighbour's second product in. -/
theorem part11 (c : Dev nD) (v13 v35 : BitVec 32) {ya yb yo yp : S1024x256.Idx → Elt F .f32} {Q : PUnit → sProp 𝕄} :
    iprop(ctx x w
        ∗ landed x w .t12 c
        ∗ held (c : Thread nD τ) soaM.view fullShare ya
        ∗ semVal ((c : Thread nD τ), .dma (lS 4)) 0
        ∗ held (c : Thread nD τ) (o4 c).view fullShare yo
        ∗ due .t13 c
        ∗ held (c : Thread nD τ) sobM.view fullShare yb
        ∗ semVal ((c : Thread nD τ), .dma (lS 5)) 0
        ∗ held (c : Thread nD τ) (o5 c).view fullShare yp
        ∗ due .t7 c
        ∗ owe c 14)
      ⊢ iprop((landed x w .t12 c
          ∗ landed x w .t13 c
          ∗ semVal (cell (.rcv .t13) c) 0
          ∗ landed x w .t7 c
          ∗ semVal (cell (.rcv .t7) c) 0
          ∗ copying c 4 soaM (o4 c) (k0_pay7 (Tr.val x w (lft c) .t12))
          ∗ copying c 5 sobM (o5 c) (k0_pay7 (Tr.val x w (rgt c) .t13))
          ∗ owe c 14
          -∗ Q ⟨⟩)
        -∗ wp frame (wpE (defs₀ (F := F)) 𝒱₀ (c : Thread nD τ) none) Set.univ (k0_part11 (F := F) xM (Memref.isWhole_whole _) wM (Memref.isWhole_whole _) oM (Memref.isWhole_whole _) xfM (Memref.isWhole_whole _) xbM (Memref.isWhole_whole _) wlM (Memref.isWhole_whole _) wrM (Memref.isWhole_whole _) woaM (Memref.isWhole_whole _) wobM (Memref.isWhole_whole _) blM (Memref.isWhole_whole _) brM (Memref.isWhole_whole _) boaM (Memref.isWhole_whole _) bobM (Memref.isWhole_whole _) faM (Memref.isWhole_whole _) fbM (Memref.isWhole_whole _) ilM (Memref.isWhole_whole _) irM (Memref.isWhole_whole _) ioaM (Memref.isWhole_whole _) iobM (Memref.isWhole_whole _) smM (Memref.isWhole_whole _) slM (Memref.isWhole_whole _) srM (Memref.isWhole_whole _) soaM (Memref.isWhole_whole _) sobM (Memref.isWhole_whole _) cc0_scratch21 cc0_scratch22 cc0_scratch23 c v13 v35) Q) := by
  rw [k0_part11_eq_skeleton]; unfold k0_part11_skel
  simp only [semSignalWord, semWaitWord, Prog.lift, Prog.bind_op, Prog.bind_ret, Prog.pure_eq_ret]
  iintro ⟨#Hctx, La12, Sa, Zl4, Oa, Du13, Sb, Zl5, Ob, Du7, HO⟩ Hk
  ihave La12 := (Entails.of_eq (landed_t12 x w c)) $$ La12
  iapply (wp_ld_full 𝒱₀ (c : Thread nD τ) none (funext fun a => by fin_cases a <;> rfl)) $$ [La12]
  · iexact La12
  iintro La12
  ihave La12 := (Entails.of_eq (landed_t12 x w c).symm) $$ La12
  iapply (wp_ld_full 𝒱₀ (c : Thread nD τ) none (funext fun a => by fin_cases a <;> rfl)) $$ [Sa]
  · iexact Sa
  iintro Sa
  iapply (wp_st_full 𝒱₀ (c : Thread nD τ) none (funext fun a => by fin_cases a <;> rfl)) $$ [Sa]
  · iexact Sa
  iintro Sa
  iapply (wp_copy c 4 (by decide)) $$ [Sa Oa Zl4]
  · isplitl [Sa]; · iexact Sa
    isplitl [Oa]; · iexact Oa
    iexact Zl4
  iintro C4
  iapply (wp_landed x w .t13 c (p := 14) (by decide) rfl) $$ [Du13 HO]
  · isplitr; · iexact Hctx
    isplitl [Du13]; · iexact Du13
    iexact HO
  iintro ⟨La13, Zr13, HO⟩
  ihave La13 := (Entails.of_eq (landed_t13 x w c)) $$ La13
  iapply (wp_ld_full 𝒱₀ (c : Thread nD τ) none (funext fun a => by fin_cases a <;> rfl)) $$ [La13]
  · iexact La13
  iintro La13
  ihave La13 := (Entails.of_eq (landed_t13 x w c).symm) $$ La13
  iapply (wp_ld_full 𝒱₀ (c : Thread nD τ) none (funext fun a => by fin_cases a <;> rfl)) $$ [Sb]
  · iexact Sb
  iintro Sb
  iapply (wp_st_full 𝒱₀ (c : Thread nD τ) none (funext fun a => by fin_cases a <;> rfl)) $$ [Sb]
  · iexact Sb
  iintro Sb
  iapply (wp_copy c 5 (by decide)) $$ [Sb Ob Zl5]
  · isplitl [Sb]; · iexact Sb
    isplitl [Ob]; · iexact Ob
    iexact Zl5
  iintro C5
  iapply (wp_landed x w .t7 c (p := 14) (by decide) rfl) $$ [Du7 HO]
  · isplitr; · iexact Hctx
    isplitl [Du7]; · iexact Du7
    iexact HO
  iintro ⟨La7, Zr7, HO⟩
  rw [wp_ret]; imodintro
  iapply Hk
  isplitl [La12]; · iexact La12
  isplitl [La13]; · iexact La13
  isplitl [Zr13]; · iexact Zr13
  isplitl [La7]; · iexact La7
  isplitl [Zr7]; · iexact Zr7
  isplitl [C4]; · iexact C4
  isplitl [C5]; · iexact C5
  iexact HO

/-- Both neighbours' second products on their way out. -/
theorem part12 (c : Dev nD) (v13 v24 : BitVec 32) {yr yl yo yp : S1024x256.Idx → Elt F .f32} {Q : PUnit → sProp 𝕄} :
    iprop(ctx x w
        ∗ landed x w .t7 c
        ∗ held (c : Thread nD τ) (srM.slice jb (fun _ => rfl)).view fullShare yr
        ∗ semVal ((c : Thread nD τ), .dma (lS 6)) 0
        ∗ held (c : Thread nD τ) (o6 c).view fullShare yo
        ∗ due .t9 c
        ∗ held (c : Thread nD τ) (slM.slice ja (fun _ => rfl)).view fullShare yl
        ∗ semVal ((c : Thread nD τ), .dma (lS 7)) 0
        ∗ held (c : Thread nD τ) (o7 c).view fullShare yp
        ∗ owe c 14)
      ⊢ iprop((landed x w .t7 c
          ∗ landed x w .t9 c
          ∗ semVal (cell (.rcv .t9) c) 0
          ∗ copying c 6 (srM.slice jb (fun _ => rfl)) (o6 c) (k0_pay7 (Tr.val x w (rgt c) .t7))
          ∗ copying c 7 (slM.slice ja (fun _ => rfl)) (o7 c) (k0_pay7 (Tr.val x w (lft c) .t9))
          ∗ owe c 14
          -∗ Q ⟨⟩)
        -∗ wp frame (wpE (defs₀ (F := F)) 𝒱₀ (c : Thread nD τ) none) Set.univ (k0_part12 (F := F) xM (Memref.isWhole_whole _) wM (Memref.isWhole_whole _) oM (Memref.isWhole_whole _) xfM (Memref.isWhole_whole _) xbM (Memref.isWhole_whole _) wlM (Memref.isWhole_whole _) wrM (Memref.isWhole_whole _) woaM (Memref.isWhole_whole _) wobM (Memref.isWhole_whole _) blM (Memref.isWhole_whole _) brM (Memref.isWhole_whole _) boaM (Memref.isWhole_whole _) bobM (Memref.isWhole_whole _) faM (Memref.isWhole_whole _) fbM (Memref.isWhole_whole _) ilM (Memref.isWhole_whole _) irM (Memref.isWhole_whole _) ioaM (Memref.isWhole_whole _) iobM (Memref.isWhole_whole _) smM (Memref.isWhole_whole _) slM (Memref.isWhole_whole _) srM (Memref.isWhole_whole _) soaM (Memref.isWhole_whole _) sobM (Memref.isWhole_whole _) cc0_scratch21 cc0_scratch22 cc0_scratch23 c v13 v24) Q) := by
  rw [k0_part12_eq_skeleton]; unfold k0_part12_skel
  simp only [semSignalWord, semWaitWord, Prog.lift, Prog.bind_op, Prog.bind_ret, Prog.pure_eq_ret]
  iintro ⟨#Hctx, La7, Sr, Zl6, Oa, Du9, Sl, Zl7, Ob, HO⟩ Hk
  ihave La7 := (Entails.of_eq (landed_t7 x w c)) $$ La7
  iapply (wp_ld 𝒱₀ (c : Thread nD τ) none) $$ [La7]
  · iexact La7
  iintro La7
  ihave La7 := (Entails.of_eq (landed_t7 x w c).symm) $$ La7
  iapply (wp_ld 𝒱₀ (c : Thread nD τ) none) $$ [Sr]
  · iexact Sr
  iintro Sr
  iapply (wp_st 𝒱₀ (c : Thread nD τ) none) $$ [Sr]
  · iexact Sr
  iintro Sr
  iapply (wp_copy c 6 (by decide)) $$ [Sr Oa Zl6]
  · isplitl [Sr]; · iexact Sr
    isplitl [Oa]; · iexact Oa
    iexact Zl6
  iintro C6
  iapply (wp_landed x w .t9 c (p := 14) (by decide) rfl) $$ [Du9 HO]
  · isplitr; · iexact Hctx
    isplitl [Du9]; · iexact Du9
    iexact HO
  iintro ⟨La9, Zr9, HO⟩
  ihave La9 := (Entails.of_eq (landed_t9 x w c)) $$ La9
  iapply (wp_ld 𝒱₀ (c : Thread nD τ) none) $$ [La9]
  · iexact La9
  iintro La9
  ihave La9 := (Entails.of_eq (landed_t9 x w c).symm) $$ La9
  iapply (wp_ld 𝒱₀ (c : Thread nD τ) none) $$ [Sl]
  · iexact Sl
  iintro Sl
  iapply (wp_st 𝒱₀ (c : Thread nD τ) none) $$ [Sl]
  · iexact Sl
  iintro Sl
  iapply (wp_copy c 7 (by decide)) $$ [Sl Ob Zl7]
  · isplitl [Sl]; · iexact Sl
    isplitl [Ob]; · iexact Ob
    iexact Zl7
  iintro C7
  rw [wp_ret]; imodintro
  iapply Hk
  isplitl [La7]; · iexact La7
  isplitl [La9]; · iexact La9
  isplitl [Zr9]; · iexact Zr9
  isplitl [C6]; · iexact C6
  isplitl [C7]; · iexact C7
  iexact HO

/-- All seven pieces of the result out. -/
theorem part13 (c : Dev nD) {Q : PUnit → sProp 𝕄} :
    iprop(ctx x w
        ∗ copying c 1 smM (o1 c) (k0_pay2 (xb x c) (w c))
        ∗ copying c 2 (srM.slice ja (fun _ => rfl)) (o2 c) (k0_pay7 (Tr.val x w (rgt c) .t6))
        ∗ copying c 3 (slM.slice jb (fun _ => rfl)) (o3 c) (k0_pay7 (Tr.val x w (lft c) .t8))
        ∗ copying c 4 soaM (o4 c) (k0_pay7 (Tr.val x w (lft c) .t12))
        ∗ copying c 5 sobM (o5 c) (k0_pay7 (Tr.val x w (rgt c) .t13))
        ∗ copying c 6 (srM.slice jb (fun _ => rfl)) (o6 c) (k0_pay7 (Tr.val x w (rgt c) .t7))
        ∗ copying c 7 (slM.slice ja (fun _ => rfl)) (o7 c) (k0_pay7 (Tr.val x w (lft c) .t9))
        ∗ owe c 14)
      ⊢ iprop((held (c : Thread nD τ) (o1 c).view fullShare (k0_pay2 (xb x c) (w c))
          ∗ held (c : Thread nD τ) smM.view fullShare (k0_pay2 (xb x c) (w c))
          ∗ semVal ((c : Thread nD τ), .dma (lS 1)) 0
          ∗ held (c : Thread nD τ) (o2 c).view fullShare (k0_pay7 (Tr.val x w (rgt c) .t6))
          ∗ held (c : Thread nD τ) (srM.slice ja (fun _ => rfl)).view fullShare (k0_pay7 (Tr.val x w (rgt c) .t6))
          ∗ semVal ((c : Thread nD τ), .dma (lS 2)) 0
          ∗ held (c : Thread nD τ) (o3 c).view fullShare (k0_pay7 (Tr.val x w (lft c) .t8))
          ∗ held (c : Thread nD τ) (slM.slice jb (fun _ => rfl)).view fullShare (k0_pay7 (Tr.val x w (lft c) .t8))
          ∗ semVal ((c : Thread nD τ), .dma (lS 3)) 0
          ∗ held (c : Thread nD τ) (o4 c).view fullShare (k0_pay7 (Tr.val x w (lft c) .t12))
          ∗ held (c : Thread nD τ) soaM.view fullShare (k0_pay7 (Tr.val x w (lft c) .t12))
          ∗ semVal ((c : Thread nD τ), .dma (lS 4)) 0
          ∗ held (c : Thread nD τ) (o5 c).view fullShare (k0_pay7 (Tr.val x w (rgt c) .t13))
          ∗ held (c : Thread nD τ) sobM.view fullShare (k0_pay7 (Tr.val x w (rgt c) .t13))
          ∗ semVal ((c : Thread nD τ), .dma (lS 5)) 0
          ∗ held (c : Thread nD τ) (o6 c).view fullShare (k0_pay7 (Tr.val x w (rgt c) .t7))
          ∗ held (c : Thread nD τ) (srM.slice jb (fun _ => rfl)).view fullShare (k0_pay7 (Tr.val x w (rgt c) .t7))
          ∗ semVal ((c : Thread nD τ), .dma (lS 6)) 0
          ∗ held (c : Thread nD τ) (o7 c).view fullShare (k0_pay7 (Tr.val x w (lft c) .t9))
          ∗ held (c : Thread nD τ) (slM.slice ja (fun _ => rfl)).view fullShare (k0_pay7 (Tr.val x w (lft c) .t9))
          ∗ semVal ((c : Thread nD τ), .dma (lS 7)) 0
          ∗ owe c 14
          -∗ Q ⟨⟩)
        -∗ wp frame (wpE (defs₀ (F := F)) 𝒱₀ (c : Thread nD τ) none) Set.univ (k0_part13 (F := F) xM (Memref.isWhole_whole _) wM (Memref.isWhole_whole _) oM (Memref.isWhole_whole _) xfM (Memref.isWhole_whole _) xbM (Memref.isWhole_whole _) wlM (Memref.isWhole_whole _) wrM (Memref.isWhole_whole _) woaM (Memref.isWhole_whole _) wobM (Memref.isWhole_whole _) blM (Memref.isWhole_whole _) brM (Memref.isWhole_whole _) boaM (Memref.isWhole_whole _) bobM (Memref.isWhole_whole _) faM (Memref.isWhole_whole _) fbM (Memref.isWhole_whole _) ilM (Memref.isWhole_whole _) irM (Memref.isWhole_whole _) ioaM (Memref.isWhole_whole _) iobM (Memref.isWhole_whole _) smM (Memref.isWhole_whole _) slM (Memref.isWhole_whole _) srM (Memref.isWhole_whole _) soaM (Memref.isWhole_whole _) sobM (Memref.isWhole_whole _) cc0_scratch21 cc0_scratch22 cc0_scratch23 c) Q) := by
  rw [k0_part13_eq_skeleton]; unfold k0_part13_skel
  simp only [semSignalWord, semWaitWord, Prog.lift, Prog.bind_op, Prog.bind_ret, Prog.pure_eq_ret]
  iintro ⟨#Hctx, C1, C2, C3, C4, C5, C6, C7, HO⟩ Hk
  iapply (wp_copied x w c 1 (p := 14)) $$ [C1 HO]
  · isplitr; · iexact Hctx
    isplitl [C1]; · iexact C1
    iexact HO
  iintro ⟨⟨Op1, Sp1⟩, Zl1, HO⟩
  iapply (wp_copied x w c 2 (p := 14)) $$ [C2 HO]
  · isplitr; · iexact Hctx
    isplitl [C2]; · iexact C2
    iexact HO
  iintro ⟨⟨Op2, Sp2⟩, Zl2, HO⟩
  iapply (wp_copied x w c 3 (p := 14)) $$ [C3 HO]
  · isplitr; · iexact Hctx
    isplitl [C3]; · iexact C3
    iexact HO
  iintro ⟨⟨Op3, Sp3⟩, Zl3, HO⟩
  iapply (wp_copied x w c 4 (p := 14)) $$ [C4 HO]
  · isplitr; · iexact Hctx
    isplitl [C4]; · iexact C4
    iexact HO
  iintro ⟨⟨Op4, Sp4⟩, Zl4, HO⟩
  iapply (wp_copied x w c 5 (p := 14)) $$ [C5 HO]
  · isplitr; · iexact Hctx
    isplitl [C5]; · iexact C5
    iexact HO
  iintro ⟨⟨Op5, Sp5⟩, Zl5, HO⟩
  iapply (wp_copied x w c 6 (p := 14)) $$ [C6 HO]
  · isplitr; · iexact Hctx
    isplitl [C6]; · iexact C6
    iexact HO
  iintro ⟨⟨Op6, Sp6⟩, Zl6, HO⟩
  iapply (wp_copied x w c 7 (p := 14)) $$ [C7 HO]
  · isplitr; · iexact Hctx
    isplitl [C7]; · iexact C7
    iexact HO
  iintro ⟨⟨Op7, Sp7⟩, Zl7, HO⟩
  rw [wp_ret]; imodintro
  iapply Hk
  isplitl [Op1]; · iexact Op1
  isplitl [Sp1]; · iexact Sp1
  isplitl [Zl1]; · iexact Zl1
  isplitl [Op2]; · iexact Op2
  isplitl [Sp2]; · iexact Sp2
  isplitl [Zl2]; · iexact Zl2
  isplitl [Op3]; · iexact Op3
  isplitl [Sp3]; · iexact Sp3
  isplitl [Zl3]; · iexact Zl3
  isplitl [Op4]; · iexact Op4
  isplitl [Sp4]; · iexact Sp4
  isplitl [Zl4]; · iexact Zl4
  isplitl [Op5]; · iexact Op5
  isplitl [Sp5]; · iexact Sp5
  isplitl [Zl5]; · iexact Zl5
  isplitl [Op6]; · iexact Op6
  isplitl [Sp6]; · iexact Sp6
  isplitl [Zl6]; · iexact Zl6
  isplitl [Op7]; · iexact Op7
  isplitl [Sp7]; · iexact Sp7
  isplitl [Zl7]; · iexact Zl7
  iexact HO

/-- The transfers of columns gone. -/
theorem part14 (c : Dev nD) {Q : PUnit → sProp 𝕄} :
    iprop(ctx x w
        ∗ going .t0 c
        ∗ going .t1 c
        ∗ going .t3 c
        ∗ going .t2 c
        ∗ going .t4 c
        ∗ going .t5 c
        ∗ owe c 14)
      ⊢ iprop((gone x w .t0 c
          ∗ semVal (cell (.snd .t0) c) 0
          ∗ gone x w .t1 c
          ∗ semVal (cell (.snd .t1) c) 0
          ∗ gone x w .t3 c
          ∗ semVal (cell (.snd .t3) c) 0
          ∗ gone x w .t2 c
          ∗ semVal (cell (.snd .t2) c) 0
          ∗ gone x w .t4 c
          ∗ semVal (cell (.snd .t4) c) 0
          ∗ gone x w .t5 c
          ∗ semVal (cell (.snd .t5) c) 0
          ∗ owe c 14
          -∗ Q ⟨⟩)
        -∗ wp frame (wpE (defs₀ (F := F)) 𝒱₀ (c : Thread nD τ) none) Set.univ (k0_part14 (F := F) xM (Memref.isWhole_whole _) wM (Memref.isWhole_whole _) oM (Memref.isWhole_whole _) xfM (Memref.isWhole_whole _) xbM (Memref.isWhole_whole _) wlM (Memref.isWhole_whole _) wrM (Memref.isWhole_whole _) woaM (Memref.isWhole_whole _) wobM (Memref.isWhole_whole _) blM (Memref.isWhole_whole _) brM (Memref.isWhole_whole _) boaM (Memref.isWhole_whole _) bobM (Memref.isWhole_whole _) faM (Memref.isWhole_whole _) fbM (Memref.isWhole_whole _) ilM (Memref.isWhole_whole _) irM (Memref.isWhole_whole _) ioaM (Memref.isWhole_whole _) iobM (Memref.isWhole_whole _) smM (Memref.isWhole_whole _) slM (Memref.isWhole_whole _) srM (Memref.isWhole_whole _) soaM (Memref.isWhole_whole _) sobM (Memref.isWhole_whole _) cc0_scratch21 cc0_scratch22 cc0_scratch23 ) Q) := by
  rw [k0_part14_eq_skeleton]; unfold k0_part14_skel
  simp only [semSignalWord, semWaitWord, Prog.lift, Prog.bind_op, Prog.bind_ret, Prog.pure_eq_ret]
  iintro ⟨#Hctx, Go0, Go1, Go3, Go2, Go4, Go5, HO⟩ Hk
  iapply (wp_gone x w .t0 c (p := 14) (credit_same _ _)) $$ [Go0 HO]
  · isplitr; · iexact Hctx
    isplitl [Go0]; · iexact Go0
    iexact HO
  iintro ⟨G0, Zs0, HO⟩
  iapply (wp_gone x w .t1 c (p := 14) (credit_same _ _)) $$ [Go1 HO]
  · isplitr; · iexact Hctx
    isplitl [Go1]; · iexact Go1
    iexact HO
  iintro ⟨G1, Zs1, HO⟩
  iapply (wp_gone x w .t3 c (p := 14) (credit_same _ _)) $$ [Go3 HO]
  · isplitr; · iexact Hctx
    isplitl [Go3]; · iexact Go3
    iexact HO
  iintro ⟨G3, Zs3, HO⟩
  iapply (wp_gone x w .t2 c (p := 14) (credit_same _ _)) $$ [Go2 HO]
  · isplitr; · iexact Hctx
    isplitl [Go2]; · iexact Go2
    iexact HO
  iintro ⟨G2, Zs2, HO⟩
  iapply (wp_gone x w .t4 c (p := 14) (credit_same _ _)) $$ [Go4 HO]
  · isplitr; · iexact Hctx
    isplitl [Go4]; · iexact Go4
    iexact HO
  iintro ⟨G4, Zs4, HO⟩
  iapply (wp_gone x w .t5 c (p := 14) (credit_same _ _)) $$ [Go5 HO]
  · isplitr; · iexact Hctx
    isplitl [Go5]; · iexact Go5
    iexact HO
  iintro ⟨G5, Zs5, HO⟩
  rw [wp_ret]; imodintro
  iapply Hk
  isplitl [G0]; · iexact G0
  isplitl [Zs0]; · iexact Zs0
  isplitl [G1]; · iexact G1
  isplitl [Zs1]; · iexact Zs1
  isplitl [G3]; · iexact G3
  isplitl [Zs3]; · iexact Zs3
  isplitl [G2]; · iexact G2
  isplitl [Zs2]; · iexact Zs2
  isplitl [G4]; · iexact G4
  isplitl [Zs4]; · iexact Zs4
  isplitl [G5]; · iexact G5
  isplitl [Zs5]; · iexact Zs5
  iexact HO

/-- The transfers of products gone, but for the two passed on. -/
theorem part15 (c : Dev nD) {Q : PUnit → sProp 𝕄} :
    iprop(ctx x w
        ∗ going .t6 c
        ∗ going .t7 c
        ∗ going .t9 c
        ∗ going .t8 c
        ∗ going .t10 c
        ∗ going .t11 c
        ∗ owe c 14)
      ⊢ iprop((gone x w .t6 c
          ∗ semVal (cell (.snd .t6) c) 0
          ∗ gone x w .t7 c
          ∗ semVal (cell (.snd .t7) c) 0
          ∗ gone x w .t9 c
          ∗ semVal (cell (.snd .t9) c) 0
          ∗ gone x w .t8 c
          ∗ semVal (cell (.snd .t8) c) 0
          ∗ gone x w .t10 c
          ∗ semVal (cell (.snd .t10) c) 0
          ∗ gone x w .t11 c
          ∗ semVal (cell (.snd .t11) c) 0
          ∗ owe c 14
          -∗ Q ⟨⟩)
        -∗ wp frame (wpE (defs₀ (F := F)) 𝒱₀ (c : Thread nD τ) none) Set.univ (k0_part15 (F := F) xM (Memref.isWhole_whole _) wM (Memref.isWhole_whole _) oM (Memref.isWhole_whole _) xfM (Memref.isWhole_whole _) xbM (Memref.isWhole_whole _) wlM (Memref.isWhole_whole _) wrM (Memref.isWhole_whole _) woaM (Memref.isWhole_whole _) wobM (Memref.isWhole_whole _) blM (Memref.isWhole_whole _) brM (Memref.isWhole_whole _) boaM (Memref.isWhole_whole _) bobM (Memref.isWhole_whole _) faM (Memref.isWhole_whole _) fbM (Memref.isWhole_whole _) ilM (Memref.isWhole_whole _) irM (Memref.isWhole_whole _) ioaM (Memref.isWhole_whole _) iobM (Memref.isWhole_whole _) smM (Memref.isWhole_whole _) slM (Memref.isWhole_whole _) srM (Memref.isWhole_whole _) soaM (Memref.isWhole_whole _) sobM (Memref.isWhole_whole _) cc0_scratch21 cc0_scratch22 cc0_scratch23 ) Q) := by
  rw [k0_part15_eq_skeleton]; unfold k0_part15_skel
  simp only [semSignalWord, semWaitWord, Prog.lift, Prog.bind_op, Prog.bind_ret, Prog.pure_eq_ret]
  iintro ⟨#Hctx, Go6, Go7, Go9, Go8, Go10, Go11, HO⟩ Hk
  iapply (wp_gone x w .t6 c (p := 14) (credit_same _ _)) $$ [Go6 HO]
  · isplitr; · iexact Hctx
    isplitl [Go6]; · iexact Go6
    iexact HO
  iintro ⟨G6, Zs6, HO⟩
  iapply (wp_gone x w .t7 c (p := 14) (credit_same _ _)) $$ [Go7 HO]
  · isplitr; · iexact Hctx
    isplitl [Go7]; · iexact Go7
    iexact HO
  iintro ⟨G7, Zs7, HO⟩
  iapply (wp_gone x w .t9 c (p := 14) (credit_same _ _)) $$ [Go9 HO]
  · isplitr; · iexact Hctx
    isplitl [Go9]; · iexact Go9
    iexact HO
  iintro ⟨G9, Zs9, HO⟩
  iapply (wp_gone x w .t8 c (p := 14) (credit_same _ _)) $$ [Go8 HO]
  · isplitr; · iexact Hctx
    isplitl [Go8]; · iexact Go8
    iexact HO
  iintro ⟨G8, Zs8, HO⟩
  iapply (wp_gone x w .t10 c (p := 14) (credit_same _ _)) $$ [Go10 HO]
  · isplitr; · iexact Hctx
    isplitl [Go10]; · iexact Go10
    iexact HO
  iintro ⟨G10, Zs10, HO⟩
  iapply (wp_gone x w .t11 c (p := 14) (credit_same _ _)) $$ [Go11 HO]
  · isplitr; · iexact Hctx
    isplitl [Go11]; · iexact Go11
    iexact HO
  iintro ⟨G11, Zs11, HO⟩
  rw [wp_ret]; imodintro
  iapply Hk
  isplitl [G6]; · iexact G6
  isplitl [Zs6]; · iexact Zs6
  isplitl [G7]; · iexact G7
  isplitl [Zs7]; · iexact Zs7
  isplitl [G9]; · iexact G9
  isplitl [Zs9]; · iexact Zs9
  isplitl [G8]; · iexact G8
  isplitl [Zs8]; · iexact Zs8
  isplitl [G10]; · iexact G10
  isplitl [Zs10]; · iexact Zs10
  isplitl [G11]; · iexact G11
  isplitl [Zs11]; · iexact Zs11
  iexact HO

end Cert.Ring

end
-- ==== Proof.Body.lean ====
/-
# `Body`: the kernel's body on one device, from start to end

The stretches one after the other. What a device starts from: its rows and columns, its result and its 21 scratch
buffers at any contents, its part in the ring. What it ends with: its rows and columns as they were, the result at
`OUT`, the scratch buffers at some contents, and every semaphore back at zero.
-/
module

public import proofs.«01_k».proof.Proof.Out
public import proofs.«01_k».proof.Proof.PartsA
public import proofs.«01_k».proof.Proof.PartsB
public import proofs.«01_k».proof.Proof.PartsC

@[expose] public section

noncomputable section

namespace Cert.Ring

open Cert.KernelIdeal Cert.KernelIdeal.Gen Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → S1024x4096.Idx → Elt F .f32) (w : Dev nD → S4096x512.Idx → Elt F .bf16)

/-! ## Conjunctions over the transfers and over a device's own copies, spelled out -/

omit [FloatOps F] in
theorem over_tr (Φ : Tr → sProp 𝕄) : bigSep Finset.univ Φ
    = iprop(Φ .t0 ∗ Φ .t1 ∗ Φ .t2 ∗ Φ .t3 ∗ Φ .t4 ∗ Φ .t5 ∗ Φ .t6 ∗ Φ .t7 ∗ Φ .t8 ∗ Φ .t9 ∗ Φ .t10 ∗ Φ .t11 ∗ Φ .t12 ∗ Φ .t13) := by
  rw [bigSep_univ_eq_bigSepL Tr.all (by decide) (by decide)]
  unfold Tr.all
  simp only [bigSepL_cons_cons, bigSepL_singleton]
  rfl
omit [FloatOps F] in
theorem over_copies (Φ : Fin 8 → sProp 𝕄) : bigSep Finset.univ Φ
    = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  simp only [bigSepL_cons_cons, bigSepL_singleton]
  rfl

/-! ## Buffers and their column halves -/

theorem halves_k : Disjoint ka.set kb.set ∧ ka.set ∪ kb.set = Finset.univ := by
  constructor
  · exact Rect.disjoint_of_axis _ _ (1 : Fin 2) fun p hp q hq => by
      have hp : p < 256 := hp
      show 0 + 1 * p ≠ 256 + 1 * q
      omega
  · ext i
    have h1 : (i 1).val < 512 := (i 1).isLt
    simp only [Finset.mem_union, Rect.mem_set_unit, Finset.mem_univ, iff_true]
    by_cases h : (i 1).val < 256
    · left; intro a; fin_cases a
      · exact ⟨Nat.zero_le _, (i 0).isLt⟩
      · exact ⟨Nat.zero_le _, h⟩
    · right; intro a; fin_cases a
      · exact ⟨Nat.zero_le _, (i 0).isLt⟩
      · exact ⟨Nat.le_of_not_lt h, h1⟩
theorem halves_j : Disjoint ja.set jb.set ∧ ja.set ∪ jb.set = Finset.univ := by
  constructor
  · exact Rect.disjoint_of_axis _ _ (1 : Fin 2) fun p hp q hq => by
      have hp : p < 256 := hp
      show 0 + 1 * p ≠ 256 + 1 * q
      omega
  · ext i
    have h1 : (i 1).val < 512 := (i 1).isLt
    simp only [Finset.mem_union, Rect.mem_set_unit, Finset.mem_univ, iff_true]
    by_cases h : (i 1).val < 256
    · left; intro a; fin_cases a
      · exact ⟨Nat.zero_le _, (i 0).isLt⟩
      · exact ⟨Nat.zero_le _, h⟩
    · right; intro a; fin_cases a
      · exact ⟨Nat.zero_le _, (i 0).isLt⟩
      · exact ⟨Nat.le_of_not_lt h, h1⟩

/-- Device `c` holds all of a memref, at whatever it contains. -/
def filled (c : Dev nD) {sp : Space} {s : Shape} {e : EltTy} (m : Memref sig .tc sp s e) : sProp 𝕄 := iprop(∃ y, held (c : Thread nD τ) m.view fullShare y)

theorem filled_of (c : Dev nD) {sp : Space} {s : Shape} {e : EltTy} (m : Memref sig .tc sp s e) (y : s.Idx → Elt F e) :
    held (c : Thread nD τ) m.view fullShare y ⊢ filled c m := by
  unfold filled; iintro H; iexists y; iexact H

theorem filled_open (c : Dev nD) {sp : Space} {s : Shape} {e : EltTy} (m : Memref sig .tc sp s e) :
    (filled c m : sProp 𝕄) ⊢ iprop(∃ y, held (c : Thread nD τ) m.view fullShare y) := by
  unfold filled; exact Entails.of_eq rfl

/-- A memref at any contents, by column halves, and back. -/
theorem cut_k (c : Dev nD) {sp : Space} {e : EltTy} (m : Memref sig .tc sp S4096x512 e) :
    (filled c m : sProp 𝕄) ⊢ iprop(filled c (m.slice ka (fun _ => rfl)) ∗ filled c (m.slice kb (fun _ => rfl))) := by
  unfold filled
  iintro ⟨%y, H⟩
  ihave H := (held_split (c : Thread nD τ) m.view fullShare ka kb halves_k.1 halves_k.2 y).1 $$ H
  icases H with ⟨H₁, H₂⟩
  isplitl [H₁]; · iexists _; iexact H₁
  iexists _; iexact H₂
theorem cut_j (c : Dev nD) {sp : Space} {e : EltTy} (m : Memref sig .tc sp S1024x512 e) :
    (filled c m : sProp 𝕄) ⊢ iprop(filled c (m.slice ja (fun _ => rfl)) ∗ filled c (m.slice jb (fun _ => rfl))) := by
  unfold filled
  iintro ⟨%y, H⟩
  ihave H := (held_split (c : Thread nD τ) m.view fullShare ja jb halves_j.1 halves_j.2 y).1 $$ H
  icases H with ⟨H₁, H₂⟩
  isplitl [H₁]; · iexists _; iexact H₁
  iexists _; iexact H₂
theorem glue_k (c : Dev nD) {sp : Space} {e : EltTy} (m : Memref sig .tc sp S4096x512 e) (y₁ y₂ : S4096x256.Idx → Elt F e) :
    iprop(held (c : Thread nD τ) (m.access ka) fullShare y₁ ∗ held (c : Thread nD τ) (m.access kb) fullShare y₂) ⊢ (filled c m : sProp 𝕄) :=
  held_join (c : Thread nD τ) m.view fullShare ka kb halves_k.1 halves_k.2 y₁ y₂
theorem glue_j (c : Dev nD) {sp : Space} {e : EltTy} (m : Memref sig .tc sp S1024x512 e) (y₁ y₂ : S1024x256.Idx → Elt F e) :
    iprop(held (c : Thread nD τ) (m.access ja) fullShare y₁ ∗ held (c : Thread nD τ) (m.access jb) fullShare y₂) ⊢ (filled c m : sProp 𝕄) :=
  held_join (c : Thread nD τ) m.view fullShare ja jb halves_j.1 halves_j.2 y₁ y₂

/-! ## The columns, in the four transfers that send them -/

theorem columns_left (c : Dev nD) : (held (c : Thread nD τ) wM.view fullShare (w c) : sProp 𝕄)
    ⊢ iprop(gone x w .t0 c ∗ gone x w .t2 c ∗ held (c : Thread nD τ) wM.view fullShare.right (w c)) := by
  iintro H
  ihave H := (held_share (c : Thread nD τ) wM.view fullShare (PosShare.mem_left_op_right fullShare) (w c)).1 $$ H
  icases H with ⟨Hl, Hr⟩
  ihave Hl := (held_split (c : Thread nD τ) wM.view fullShare.left ka kb halves_k.1 halves_k.2 (w c)).1 $$ Hl
  icases Hl with ⟨H₁, H₂⟩
  isplitl [H₁]; · unfold gone; iexact H₁
  isplitl [H₂]; · unfold gone; iexact H₂
  iexact Hr
theorem columns_right (c : Dev nD) : (held (c : Thread nD τ) wM.view fullShare.right (w c) : sProp 𝕄) ⊢ iprop(gone x w .t1 c ∗ gone x w .t3 c) := by
  iintro H
  ihave H := (held_split (c : Thread nD τ) wM.view fullShare.right ka kb halves_k.1 halves_k.2 (w c)).1 $$ H
  icases H with ⟨H₁, H₂⟩
  isplitl [H₂]; · unfold gone; iexact H₂
  unfold gone; iexact H₁
theorem columns_back (c : Dev nD) : iprop(gone x w .t0 c ∗ gone x w .t2 c ∗ gone x w .t1 c ∗ gone x w .t3 c)
    ⊢ (held (c : Thread nD τ) wM.view fullShare (w c) : sProp 𝕄) := by
  unfold gone
  iintro ⟨H0, H2, H1, H3⟩
  ihave Hl := (held_split (c : Thread nD τ) wM.view fullShare.left ka kb halves_k.1 halves_k.2 (w c)).2 $$ [H0 H2]
  · isplitl [H0]; · iexact H0
    iexact H2
  ihave Hr := (held_split (c : Thread nD τ) wM.view fullShare.right ka kb halves_k.1 halves_k.2 (w c)).2 $$ [H3 H1]
  · isplitl [H3]; · iexact H3
    iexact H1
  iapply (held_share (c : Thread nD τ) wM.view fullShare (PosShare.mem_left_op_right fullShare) (w c)).2
  isplitl [Hl] <;> iassumption

/-! ## The landing buffers -/

/-- A device's own landing buffer is the one its sender may write. -/
theorem free_own (t : Tr) (c : Dev nD) : (filled c t.dst : sProp 𝕄) ⊢ free t (t.frm c) := by
  unfold free filled; rw [Tr.tgt_frm]

/-- The landing buffers of the two neighbours' transfers to device `c`. -/
theorem free_left (c : Dev nD) :
    iprop(filled c wlM ∗ filled c woaM ∗ filled c ilM ∗ filled c faM ∗ filled c ioaM) ⊢ (freeR (lft c) : sProp 𝕄) := by
  unfold freeR
  iintro ⟨H₁, H₂, H₃, H₄, H₅⟩
  ihave H₁ := (cut_k c wlM) $$ H₁
  icases H₁ with ⟨H0, H1⟩
  ihave H₃ := (cut_j c ilM) $$ H₃
  icases H₃ with ⟨H9, H8⟩
  isplitl [H0]; · iapply (free_own .t0 c); iexact H0
  isplitl [H1]; · iapply (free_own .t1 c); iexact H1
  isplitl [H₂]; · iapply (free_own .t4 c); iexact H₂
  isplitl [H8]; · iapply (free_own .t8 c); iexact H8
  isplitl [H9]; · iapply (free_own .t9 c); iexact H9
  isplitl [H₄]; · iapply (free_own .t10 c); iexact H₄
  iapply (free_own .t12 c); iexact H₅
theorem free_right (c : Dev nD) :
    iprop(filled c wrM ∗ filled c wobM ∗ filled c irM ∗ filled c fbM ∗ filled c iobM) ⊢ (freeL (rgt c) : sProp 𝕄) := by
  unfold freeL
  iintro ⟨H₁, H₂, H₃, H₄, H₅⟩
  ihave H₁ := (cut_k c wrM) $$ H₁
  icases H₁ with ⟨H3, H2⟩
  ihave H₃ := (cut_j c irM) $$ H₃
  icases H₃ with ⟨H6, H7⟩
  isplitl [H2]; · iapply (free_own .t2 c); iexact H2
  isplitl [H3]; · iapply (free_own .t3 c); iexact H3
  isplitl [H₂]; · iapply (free_own .t5 c); iexact H₂
  isplitl [H6]; · iapply (free_own .t6 c); iexact H6
  isplitl [H7]; · iapply (free_own .t7 c); iexact H7
  isplitl [H₄]; · iapply (free_own .t11 c); iexact H₄
  iapply (free_own .t13 c); iexact H₅

/-- The two buffers of received columns, of which a half was passed on at half a share. -/
theorem wl_back (c : Dev nD) :
    iprop(gone x w .t4 c ∗ held (c : Thread nD τ) (wlM.slice ka (fun _ => rfl)).view fullShare.right (wa w (lft c)) ∗ landed x w .t1 c) ⊢ (filled c wlM : sProp 𝕄) := by
  rw [← gone_t4, landed_t1]
  iintro ⟨H₁, H₂, H₃⟩
  iapply (glue_k c wlM (wa w (lft c)) _)
  isplitl [H₁ H₂]
  · iapply (held_share (c : Thread nD τ) (wlM.access ka) fullShare (PosShare.mem_left_op_right fullShare) (wa w (lft c))).2
    isplitl [H₁] <;> iassumption
  iexact H₃
theorem wr_back (c : Dev nD) :
    iprop(gone x w .t5 c ∗ held (c : Thread nD τ) (wrM.slice kb (fun _ => rfl)).view fullShare.right (wb w (rgt c)) ∗ landed x w .t3 c) ⊢ (filled c wrM : sProp 𝕄) := by
  rw [← gone_t5, landed_t3]
  iintro ⟨H₁, H₂, H₃⟩
  iapply (glue_k c wrM _ (wb w (rgt c)))
  isplitl [H₃]; · iexact H₃
  iapply (held_share (c : Thread nD τ) (wrM.access kb) fullShare (PosShare.mem_left_op_right fullShare) (wb w (rgt c))).2
  isplitl [H₁] <;> iassumption

/-- The scratch buffers, each at whatever it contains. -/
def buffers (c : Dev nD) : sProp 𝕄 :=
  iprop(filled c xfM ∗ filled c xbM ∗ filled c wlM ∗ filled c wrM ∗ filled c woaM ∗ filled c wobM ∗ filled c blM ∗ filled c brM ∗ filled c boaM ∗ filled c bobM ∗ filled c faM ∗ filled c fbM ∗ filled c ilM ∗ filled c irM ∗ filled c ioaM ∗ filled c iobM ∗ filled c smM ∗ filled c slM ∗ filled c srM ∗ filled c soaM ∗ filled c sobM)

/-! ## The body -/

/-- The first stretch computes the neighbours' numbers, as words no later step depends on. -/
theorem part1 (c : Dev nD) {Q : (Σ' (d0 : Dev nD) (v2 : BitVec 32) (v13 : BitVec 32) (v24 : BitVec 32), BitVec 32) → sProp 𝕄} :
    iprop(∀ v2 v13 v24 v35, Q ⟨c, v2, v13, v24, v35⟩)
      ⊢ wp frame (wpE (defs₀ (F := F)) 𝒱₀ (c : Thread nD τ) none) Set.univ (k0_part1 (F := F) xM (Memref.isWhole_whole _) wM (Memref.isWhole_whole _) oM (Memref.isWhole_whole _) xfM (Memref.isWhole_whole _) xbM (Memref.isWhole_whole _) wlM (Memref.isWhole_whole _) wrM (Memref.isWhole_whole _) woaM (Memref.isWhole_whole _) wobM (Memref.isWhole_whole _) blM (Memref.isWhole_whole _) brM (Memref.isWhole_whole _) boaM (Memref.isWhole_whole _) bobM (Memref.isWhole_whole _) faM (Memref.isWhole_whole _) fbM (Memref.isWhole_whole _) ilM (Memref.isWhole_whole _) irM (Memref.isWhole_whole _) ioaM (Memref.isWhole_whole _) iobM (Memref.isWhole_whole _) smM (Memref.isWhole_whole _) slM (Memref.isWhole_whole _) srM (Memref.isWhole_whole _) soaM (Memref.isWhole_whole _) sobM (Memref.isWhole_whole _) cc0_scratch21 cc0_scratch22 cc0_scratch23) Q := by
  rw [k0_part1_eq_skeleton]; unfold k0_part1_skel
  simp only [Prog.lift, Prog.bind_op, Prog.bind_ret, Prog.pure_eq_ret, wp_deviceId, wp_ret]
  iintro H
  imodintro
  iapply H

/-- What a device's body starts from. -/
def before (c : Dev nD) : sProp 𝕄 :=
  iprop(ctx x w ∗ (∃ W, owes (c : Thread nD τ) (owed₀ c) W) ∗ dutyTok EB (cell .bar (lft c)) 0 true ∗ dutyTok EB (cell .bar (rgt c)) 0 false
    ∗ (cred (tallyAt (cell .bar c) () 2) ∗ atPos EB (cell .bar c) 0 ∅ 0)
    ∗ (bigSep Finset.univ fun t : Tr => ready t c) ∗ (bigSep Finset.univ fun t : Tr => due t c)
    ∗ (bigSep Finset.univ fun i : Fin 8 => semVal ((c : Thread nD τ), .dma (lS i)) 0)
    ∗ held (c : Thread nD τ) xM.view fullShare (x c) ∗ filled c oM ∗ held (c : Thread nD τ) wM.view fullShare (w c) ∗ buffers c)

/-- What it ends with. -/
def done (c : Dev nD) : sProp 𝕄 :=
  iprop(owe c 14 ∗ semVal (cell .bar c) 0
    ∗ (bigSep Finset.univ fun t : Tr => semVal (cell (.snd t) c) 0) ∗ (bigSep Finset.univ fun t : Tr => semVal (cell (.rcv t) c) 0)
    ∗ (bigSep Finset.univ fun i : Fin 8 => semVal ((c : Thread nD τ), .dma (lS i)) 0)
    ∗ held (c : Thread nD τ) xM.view fullShare (x c) ∗ held (c : Thread nD τ) oM.view fullShare (OUT x w c)
    ∗ held (c : Thread nD τ) wM.view fullShare (w c) ∗ buffers c)

set_option maxHeartbeats 4000000 in
theorem body_run (c : Dev nD) {Q : PUnit → sProp 𝕄} :
    before x w c ⊢ iprop((done x w c -∗ Q ⟨⟩)
      -∗ wp frame (wpE (defs₀ (F := F)) 𝒱₀ (c : Thread nD τ) none) Set.univ (cc0_body (F := F) xM (Memref.isWhole_whole _) wM (Memref.isWhole_whole _) oM (Memref.isWhole_whole _) xfM (Memref.isWhole_whole _) xbM (Memref.isWhole_whole _) wlM (Memref.isWhole_whole _) wrM (Memref.isWhole_whole _) woaM (Memref.isWhole_whole _) wobM (Memref.isWhole_whole _) blM (Memref.isWhole_whole _) brM (Memref.isWhole_whole _) boaM (Memref.isWhole_whole _) bobM (Memref.isWhole_whole _) faM (Memref.isWhole_whole _) fbM (Memref.isWhole_whole _) ilM (Memref.isWhole_whole _) irM (Memref.isWhole_whole _) ioaM (Memref.isWhole_whole _) iobM (Memref.isWhole_whole _) smM (Memref.isWhole_whole _) slM (Memref.isWhole_whole _) srM (Memref.isWhole_whole _) soaM (Memref.isWhole_whole _) sobM (Memref.isWhole_whole _) cc0_scratch21 cc0_scratch22 cc0_scratch23) Q) := by
  rw [cc0_body_eq_skeleton]; unfold cc0_body_skel before done
  simp only [over_tr, over_copies]
  iintro ⟨#Hctx, HO, Tl, Tr, Hb, ⟨Rd0, Rd1, Rd2, Rd3, Rd4, Rd5, Rd6, Rd7, Rd8, Rd9, Rd10, Rd11, Rd12, Rd13⟩, ⟨Du0, Du1, Du2, Du3, Du4, Du5, Du6, Du7, Du8, Du9, Du10, Du11, Du12, Du13⟩, ⟨Zl0, Zl1, Zl2, Zl3, Zl4, Zl5, Zl6, Zl7⟩, X, O, W, Hbuf⟩ Hk
  unfold buffers
  icases Hbuf with ⟨Xf, Xb, Bwl, Bwr, Bwoa, Bwob, Bbl, Bbr, Boa, Bob, Bfa, Bfb, Bil, Bir, Bioa, Biob, Sm, Bsl, Bsr, Soa, Sob⟩
  ihave FR := (free_left c) $$ [Bwl Bwoa Bil Bfa Bioa]
  · isplitl [Bwl]; · iexact Bwl
    isplitl [Bwoa]; · iexact Bwoa
    isplitl [Bil]; · iexact Bil
    isplitl [Bfa]; · iexact Bfa
    iexact Bioa
  ihave FL := (free_right c) $$ [Bwr Bwob Bir Bfb Biob]
  · isplitl [Bwr]; · iexact Bwr
    isplitl [Bwob]; · iexact Bwob
    isplitl [Bir]; · iexact Bir
    isplitl [Bfb]; · iexact Bfb
    iexact Biob
  ihave Bbl := (cut_j c blM) $$ Bbl
  ihave Bbr := (cut_j c brM) $$ Bbr
  ihave Bsl := (cut_j c slM) $$ Bsl
  ihave Bsr := (cut_j c srM) $$ Bsr
  ihave W := (columns_left x w c) $$ W
  icases W with ⟨G0, G2, Wr⟩
  ihave O := (filled_open c oM) $$ O
  icases O with ⟨%yo, O⟩
  ihave O := (out_split c yo) $$ O
  icases O with ⟨⟨%q1, O1⟩, ⟨%q2, O2⟩, ⟨%q3, O3⟩, ⟨%q4, O4⟩, ⟨%q5, O5⟩, ⟨%q6, O6⟩, ⟨%q7, O7⟩⟩
  icases Bbl with ⟨Bla, Blb⟩
  ihave Bla := (filled_open c (blM.slice ja (fun _ => rfl))) $$ Bla
  icases Bla with ⟨%a1, Bla⟩
  ihave Blb := (filled_open c (blM.slice jb (fun _ => rfl))) $$ Blb
  icases Blb with ⟨%a2, Blb⟩
  icases Bbr with ⟨Bra, Brb⟩
  ihave Bra := (filled_open c (brM.slice ja (fun _ => rfl))) $$ Bra
  icases Bra with ⟨%a3, Bra⟩
  ihave Brb := (filled_open c (brM.slice jb (fun _ => rfl))) $$ Brb
  icases Brb with ⟨%a4, Brb⟩
  icases Bsl with ⟨Sla, Slb⟩
  ihave Sla := (filled_open c (slM.slice ja (fun _ => rfl))) $$ Sla
  icases Sla with ⟨%a5, Sla⟩
  ihave Slb := (filled_open c (slM.slice jb (fun _ => rfl))) $$ Slb
  icases Slb with ⟨%a6, Slb⟩
  icases Bsr with ⟨Sra, Srb⟩
  ihave Sra := (filled_open c (srM.slice ja (fun _ => rfl))) $$ Sra
  icases Sra with ⟨%a7, Sra⟩
  ihave Srb := (filled_open c (srM.slice jb (fun _ => rfl))) $$ Srb
  icases Srb with ⟨%a8, Srb⟩
  ihave Xf := (filled_open c xfM) $$ Xf
  icases Xf with ⟨%b1, Xf⟩
  ihave Xb := (filled_open c xbM) $$ Xb
  icases Xb with ⟨%b2, Xb⟩
  ihave Boa := (filled_open c boaM) $$ Boa
  icases Boa with ⟨%b3, Boa⟩
  ihave Bob := (filled_open c bobM) $$ Bob
  icases Bob with ⟨%b4, Bob⟩
  ihave Sm := (filled_open c smM) $$ Sm
  icases Sm with ⟨%b5, Sm⟩
  ihave Soa := (filled_open c soaM) $$ Soa
  icases Soa with ⟨%b6, Soa⟩
  ihave Sob := (filled_open c sobM) $$ Sob
  icases Sob with ⟨%b7, Sob⟩
  rw [wp_bind]
  iapply (part1 c)
  iintro %v2 %v13 %v24 %v35
  rw [wp_bind]
  iapply (part2 x w c _ _) $$ [HO Tl FR Tr FL Hb X Xf Zl0 G0 G2 Rd0 Rd2]
  · isplitr; · iexact Hctx
    isplitl [HO]; · iexact HO
    isplitl [Tl]; · iexact Tl
    isplitl [FR]; · iexact FR
    isplitl [Tr]; · iexact Tr
    isplitl [FL]; · iexact FL
    isplitl [Hb]; · iexact Hb
    isplitl [X]; · iexact X
    isplitl [Xf]; · iexact Xf
    isplitl [Zl0]; · iexact Zl0
    isplitl [G0]; · iexact G0
    isplitl [G2]; · iexact G2
    isplitl [Rd0]; · iexact Rd0
    iexact Rd2
  iintro ⟨Go0, Go2, Fr3, Fr5, Fr6, Fr7, Fr11, Fr13, Fr1, Fr4, Fr8, Fr9, Fr10, Fr12, Zb, X, Xf, Zl0, HO⟩
  rw [wp_bind]
  iapply (part3 x w c _ _) $$ [Xf Xb Wr Sm O1 Zl1 HO Du0 Fr4 Rd4]
  · isplitr; · iexact Hctx
    isplitl [Xf]; · iexact Xf
    isplitl [Xb]; · iexact Xb
    isplitl [Wr]; · iexact Wr
    isplitl [Sm]; · iexact Sm
    isplitl [O1]; · iexact O1
    isplitl [Zl1]; · iexact Zl1
    isplitl [HO]; · iexact HO
    isplitl [Du0]; · iexact Du0
    isplitl [Fr4]; · iexact Fr4
    iexact Rd4
  iintro ⟨Xf, Xb, Wr, C1, Lar, Zr0, Go4, HO⟩
  ihave Wr := (columns_right x w c) $$ Wr
  icases Wr with ⟨G1, G3⟩
  rw [wp_bind]
  iapply (part4 x w c _ _) $$ [G1 Fr1 Rd1 Du2 Fr5 Rd5 HO]
  · isplitr; · iexact Hctx
    isplitl [G1]; · iexact G1
    isplitl [Fr1]; · iexact Fr1
    isplitl [Rd1]; · iexact Rd1
    isplitl [Du2]; · iexact Du2
    isplitl [Fr5]; · iexact Fr5
    isplitl [Rd5]; · iexact Rd5
    iexact HO
  iintro ⟨Go1, Zr2, Go5, Lbr, HO⟩
  rw [wp_bind]
  iapply (part5 x w c _ _) $$ [G3 Fr3 Rd3 Xb Lar Bla Lbr Brb Fr6 Rd6 HO]
  · isplitr; · iexact Hctx
    isplitl [G3]; · iexact G3
    isplitl [Fr3]; · iexact Fr3
    isplitl [Rd3]; · iexact Rd3
    isplitl [Xb]; · iexact Xb
    isplitl [Lar]; · iexact Lar
    isplitl [Bla]; · iexact Bla
    isplitl [Lbr]; · iexact Lbr
    isplitl [Brb]; · iexact Brb
    isplitl [Fr6]; · iexact Fr6
    isplitl [Rd6]; · iexact Rd6
    iexact HO
  iintro ⟨Go3, Go6, G8, Xb, Lar, Lbr, HO⟩
  rw [wp_bind]
  iapply (part6 x w c _ _) $$ [G8 Fr8 Rd8 Du4 Xb Boa Fr10 Rd10 Du5 HO]
  · isplitr; · iexact Hctx
    isplitl [G8]; · iexact G8
    isplitl [Fr8]; · iexact Fr8
    isplitl [Rd8]; · iexact Rd8
    isplitl [Du4]; · iexact Du4
    isplitl [Xb]; · iexact Xb
    isplitl [Boa]; · iexact Boa
    isplitl [Fr10]; · iexact Fr10
    isplitl [Rd10]; · iexact Rd10
    isplitl [Du5]; · iexact Du5
    iexact HO
  iintro ⟨Go8, La4, Zr4, Go10, La5, Zr5, Xb, HO⟩
  rw [wp_bind]
  iapply (part7 x w c _ _) $$ [La5 Bob Fr11 Rd11 Du6 Sra Zl2 O2 HO]
  · isplitr; · iexact Hctx
    isplitl [La5]; · iexact La5
    isplitl [Bob]; · iexact Bob
    isplitl [Fr11]; · iexact Fr11
    isplitl [Rd11]; · iexact Rd11
    isplitl [Du6]; · iexact Du6
    isplitl [Sra]; · iexact Sra
    isplitl [Zl2]; · iexact Zl2
    isplitl [O2]; · iexact O2
    iexact HO
  iintro ⟨La5, Go11, La6, Zr6, C2, HO⟩
  rw [wp_bind]
  iapply (part8 x w c _ _) $$ [Du8 Slb Zl3 O3 Du10 Fr12 Rd12 HO]
  · isplitr; · iexact Hctx
    isplitl [Du8]; · iexact Du8
    isplitl [Slb]; · iexact Slb
    isplitl [Zl3]; · iexact Zl3
    isplitl [O3]; · iexact O3
    isplitl [Du10]; · iexact Du10
    isplitl [Fr12]; · iexact Fr12
    isplitl [Rd12]; · iexact Rd12
    iexact HO
  iintro ⟨La8, Zr8, Zr10, Go12, C3, HO⟩
  rw [wp_bind]
  iapply (part9 x w c _ _ _ _) $$ [Du11 Fr13 Rd13 Du1 Xb Blb HO]
  · isplitr; · iexact Hctx
    isplitl [Du11]; · iexact Du11
    isplitl [Fr13]; · iexact Fr13
    isplitl [Rd13]; · iexact Rd13
    isplitl [Du1]; · iexact Du1
    isplitl [Xb]; · iexact Xb
    isplitl [Blb]; · iexact Blb
    iexact HO
  iintro ⟨Zr11, Go13, La1, Zr1, G7, Xb, HO⟩
  rw [wp_bind]
  iapply (part10 x w c _ _) $$ [G7 Fr7 Rd7 Du3 Xb Bra Fr9 Rd9 Du12 HO]
  · isplitr; · iexact Hctx
    isplitl [G7]; · iexact G7
    isplitl [Fr7]; · iexact Fr7
    isplitl [Rd7]; · iexact Rd7
    isplitl [Du3]; · iexact Du3
    isplitl [Xb]; · iexact Xb
    isplitl [Bra]; · iexact Bra
    isplitl [Fr9]; · iexact Fr9
    isplitl [Rd9]; · iexact Rd9
    isplitl [Du12]; · iexact Du12
    iexact HO
  iintro ⟨Go7, La3, Zr3, Go9, La12, Zr12, Xb, HO⟩
  rw [wp_bind]
  iapply (part11 x w c _ _) $$ [La12 Soa Zl4 O4 Du13 Sob Zl5 O5 Du7 HO]
  · isplitr; · iexact Hctx
    isplitl [La12]; · iexact La12
    isplitl [Soa]; · iexact Soa
    isplitl [Zl4]; · iexact Zl4
    isplitl [O4]; · iexact O4
    isplitl [Du13]; · iexact Du13
    isplitl [Sob]; · iexact Sob
    isplitl [Zl5]; · iexact Zl5
    isplitl [O5]; · iexact O5
    isplitl [Du7]; · iexact Du7
    iexact HO
  iintro ⟨La12, La13, Zr13, La7, Zr7, C4, C5, HO⟩
  rw [wp_bind]
  iapply (part12 x w c _ _) $$ [La7 Srb Zl6 O6 Du9 Sla Zl7 O7 HO]
  · isplitr; · iexact Hctx
    isplitl [La7]; · iexact La7
    isplitl [Srb]; · iexact Srb
    isplitl [Zl6]; · iexact Zl6
    isplitl [O6]; · iexact O6
    isplitl [Du9]; · iexact Du9
    isplitl [Sla]; · iexact Sla
    isplitl [Zl7]; · iexact Zl7
    isplitl [O7]; · iexact O7
    iexact HO
  iintro ⟨La7, La9, Zr9, C6, C7, HO⟩
  rw [wp_bind]
  iapply (part13 x w c) $$ [C1 C2 C3 C4 C5 C6 C7 HO]
  · isplitr; · iexact Hctx
    isplitl [C1]; · iexact C1
    isplitl [C2]; · iexact C2
    isplitl [C3]; · iexact C3
    isplitl [C4]; · iexact C4
    isplitl [C5]; · iexact C5
    isplitl [C6]; · iexact C6
    isplitl [C7]; · iexact C7
    iexact HO
  iintro ⟨O1, Sp1, Zl1, O2, Sp2, Zl2, O3, Sp3, Zl3, O4, Sp4, Zl4, O5, Sp5, Zl5, O6, Sp6, Zl6, O7, Sp7, Zl7, HO⟩
  rw [wp_bind]
  iapply (part14 x w c) $$ [Go0 Go1 Go3 Go2 Go4 Go5 HO]
  · isplitr; · iexact Hctx
    isplitl [Go0]; · iexact Go0
    isplitl [Go1]; · iexact Go1
    isplitl [Go3]; · iexact Go3
    isplitl [Go2]; · iexact Go2
    isplitl [Go4]; · iexact Go4
    isplitl [Go5]; · iexact Go5
    iexact HO
  iintro ⟨G0, Zs0, G1, Zs1, G3, Zs3, G2, Zs2, G4, Zs4, G5, Zs5, HO⟩
  rw [wp_bind]
  iapply (part15 x w c) $$ [Go6 Go7 Go9 Go8 Go10 Go11 HO]
  · isplitr; · iexact Hctx
    isplitl [Go6]; · iexact Go6
    isplitl [Go7]; · iexact Go7
    isplitl [Go9]; · iexact Go9
    isplitl [Go8]; · iexact Go8
    isplitl [Go10]; · iexact Go10
    isplitl [Go11]; · iexact Go11
    iexact HO
  iintro ⟨G6, Zs6, G7, Zs7, G9, Zs9, G8, Zs8, G10, Zs10, G11, Zs11, HO⟩
  simp only [Prog.lift, Prog.bind_op, Prog.bind_ret, Prog.pure_eq_ret]
  iapply (wp_gone x w .t12 c (p := 14) (credit_same _ _)) $$ [Go12 HO]
  · isplitr; · iexact Hctx
    isplitl [Go12]; · iexact Go12
    iexact HO
  iintro ⟨G12, Zs12, HO⟩
  iapply (wp_gone x w .t13 c (p := 14) (credit_same _ _)) $$ [Go13 HO]
  · isplitr; · iexact Hctx
    isplitl [Go13]; · iexact Go13
    iexact HO
  iintro ⟨G13, Zs13, HO⟩
  rw [wp_ret]; imodintro
  iapply Hk
  ihave O := (out_join x w c) $$ [O1 O2 O3 O4 O5 O6 O7]
  · isplitl [O1]; · iexact O1
    isplitl [O2]; · iexact O2
    isplitl [O3]; · iexact O3
    isplitl [O4]; · iexact O4
    isplitl [O5]; · iexact O5
    isplitl [O6]; · iexact O6
    iexact O7
  ihave W := (columns_back x w c) $$ [G0 G2 G1 G3]
  · isplitl [G0]; · iexact G0
    isplitl [G2]; · iexact G2
    isplitl [G1]; · iexact G1
    iexact G3
  ihave Bwl := (wl_back x w c) $$ [G4 Lar La1]
  · isplitl [G4]; · iexact G4
    isplitl [Lar]; · iexact Lar
    iexact La1
  ihave Bwr := (wr_back x w c) $$ [G5 Lbr La3]
  · isplitl [G5]; · iexact G5
    isplitl [Lbr]; · iexact Lbr
    iexact La3
  ihave G6 := (Entails.of_eq (gone_t6 x w c).symm) $$ G6
  ihave G7 := (Entails.of_eq (gone_t7 x w c).symm) $$ G7
  ihave G8 := (Entails.of_eq (gone_t8 x w c).symm) $$ G8
  ihave G9 := (Entails.of_eq (gone_t9 x w c).symm) $$ G9
  ihave G10 := (Entails.of_eq (gone_t10 x w c).symm) $$ G10
  ihave G11 := (Entails.of_eq (gone_t11 x w c).symm) $$ G11
  ihave G12 := (Entails.of_eq (gone_t12 x w c).symm) $$ G12
  ihave G13 := (Entails.of_eq (gone_t13 x w c).symm) $$ G13
  ihave La4 := (Entails.of_eq (landed_t4 x w c)) $$ La4
  ihave La5 := (Entails.of_eq (landed_t5 x w c)) $$ La5
  ihave La6 := (Entails.of_eq (landed_t6 x w c)) $$ La6
  ihave La7 := (Entails.of_eq (landed_t7 x w c)) $$ La7
  ihave La8 := (Entails.of_eq (landed_t8 x w c)) $$ La8
  ihave La9 := (Entails.of_eq (landed_t9 x w c)) $$ La9
  ihave La12 := (Entails.of_eq (landed_t12 x w c)) $$ La12
  ihave La13 := (Entails.of_eq (landed_t13 x w c)) $$ La13
  ihave Bbl := (glue_j c blM _ _) $$ [G6 G7]
  · isplitl [G6]; · iexact G6
    iexact G7
  ihave Bbr := (glue_j c brM _ _) $$ [G9 G8]
  · isplitl [G9]; · iexact G9
    iexact G8
  ihave Bil := (glue_j c ilM _ _) $$ [La9 La8]
  · isplitl [La9]; · iexact La9
    iexact La8
  ihave Bir := (glue_j c irM _ _) $$ [La6 La7]
  · isplitl [La6]; · iexact La6
    iexact La7
  ihave Bsl := (glue_j c slM _ _) $$ [Sp7 Sp3]
  · isplitl [Sp7]; · iexact Sp7
    iexact Sp3
  ihave Bsr := (glue_j c srM _ _) $$ [Sp2 Sp6]
  · isplitl [Sp2]; · iexact Sp2
    iexact Sp6
  isplitl [HO]; · iexact HO
  isplitl [Zb]; · iexact Zb
  isplitl [Zs0 Zs1 Zs2 Zs3 Zs4 Zs5 Zs6 Zs7 Zs8 Zs9 Zs10 Zs11 Zs12 Zs13]
  · isplitl [Zs0]; · iexact Zs0
    isplitl [Zs1]; · iexact Zs1
    isplitl [Zs2]; · iexact Zs2
    isplitl [Zs3]; · iexact Zs3
    isplitl [Zs4]; · iexact Zs4
    isplitl [Zs5]; · iexact Zs5
    isplitl [Zs6]; · iexact Zs6
    isplitl [Zs7]; · iexact Zs7
    isplitl [Zs8]; · iexact Zs8
    isplitl [Zs9]; · iexact Zs9
    isplitl [Zs10]; · iexact Zs10
    isplitl [Zs11]; · iexact Zs11
    isplitl [Zs12]; · iexact Zs12
    iexact Zs13
  isplitl [Zr0 Zr1 Zr2 Zr3 Zr4 Zr5 Zr6 Zr7 Zr8 Zr9 Zr10 Zr11 Zr12 Zr13]
  · isplitl [Zr0]; · iexact Zr0
    isplitl [Zr1]; · iexact Zr1
    isplitl [Zr2]; · iexact Zr2
    isplitl [Zr3]; · iexact Zr3
    isplitl [Zr4]; · iexact Zr4
    isplitl [Zr5]; · iexact Zr5
    isplitl [Zr6]; · iexact Zr6
    isplitl [Zr7]; · iexact Zr7
    isplitl [Zr8]; · iexact Zr8
    isplitl [Zr9]; · iexact Zr9
    isplitl [Zr10]; · iexact Zr10
    isplitl [Zr11]; · iexact Zr11
    isplitl [Zr12]; · iexact Zr12
    iexact Zr13
  isplitl [Zl0 Zl1 Zl2 Zl3 Zl4 Zl5 Zl6 Zl7]
  · isplitl [Zl0]; · iexact Zl0
    isplitl [Zl1]; · iexact Zl1
    isplitl [Zl2]; · iexact Zl2
    isplitl [Zl3]; · iexact Zl3
    isplitl [Zl4]; · iexact Zl4
    isplitl [Zl5]; · iexact Zl5
    isplitl [Zl6]; · iexact Zl6
    iexact Zl7
  isplitl [X]; · iexact X
  isplitl [O]; · iexact O
  isplitl [W]; · iexact W
  isplitl [Xf]; · iapply (filled_of c xfM _); iexact Xf
  isplitl [Xb]; · iapply (filled_of c xbM _); iexact Xb
  isplitl [Bwl]; · iexact Bwl
  isplitl [Bwr]; · iexact Bwr
  isplitl [La4]; · iapply (filled_of c woaM _); iexact La4
  isplitl [La5]; · iapply (filled_of c wobM _); iexact La5
  isplitl [Bbl]; · iexact Bbl
  isplitl [Bbr]; · iexact Bbr
  isplitl [G10]; · iapply (filled_of c boaM _); iexact G10
  isplitl [G11]; · iapply (filled_of c bobM _); iexact G11
  isplitl [G12]; · iapply (filled_of c faM _); iexact G12
  isplitl [G13]; · iapply (filled_of c fbM _); iexact G13
  isplitl [Bil]; · iexact Bil
  isplitl [Bir]; · iexact Bir
  isplitl [La12]; · iapply (filled_of c ioaM _); iexact La12
  isplitl [La13]; · iapply (filled_of c iobM _); iexact La13
  isplitl [Sp1]; · iapply (filled_of c smM _); iexact Sp1
  isplitl [Bsl]; · iexact Bsl
  isplitl [Bsr]; · iexact Bsr
  isplitl [Sp4]; · iapply (filled_of c soaM _); iexact Sp4
  iapply (filled_of c sobM _); iexact Sp5

end Cert.Ring

end
-- ==== Proof.Ghost.lean ====
/-
# `Ghost`: what the launch deals each device

The ring's cells and the tokens of their duties, made for all devices at once; the invariant of every cell allocated
from its semaphore at zero; the tokens dealt around the ring, each to the device that pays the duty; and the credit each
device may wait on, which is what the others owe it at launch.
-/
module

public import proofs.«01_k».proof.Proof.Body

@[expose] public section

noncomputable section

namespace Cert.Ring

open Cert.KernelIdeal Cert.KernelIdeal.Gen Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → S1024x4096.Idx → Elt F .f32) (w : Dev nD → S4096x512.Idx → Elt F .bf16)

/-! ## Conjunctions over the roles -/

/-- A role is the barrier, or one of a transfer's two. -/
def roles : Unit ⊕ (Tr ⊕ Tr) ≃ Role where
  toFun | .inl _ => .bar | .inr (.inl t) => .snd t | .inr (.inr t) => .rcv t
  invFun | .bar => .inl () | .snd t => .inr (.inl t) | .rcv t => .inr (.inr t)
  left_inv a := by rcases a with _ | t | t <;> rfl
  right_inv r := by rcases r with _ | t | t <;> rfl

theorem over_roles (Φ : Role → sProp 𝕄) :
    bigSep Finset.univ Φ = iprop(Φ .bar ∗ (bigSep Finset.univ fun t : Tr => Φ (.snd t)) ∗ bigSep Finset.univ fun t : Tr => Φ (.rcv t)) := by
  rw [bigSep_univ_equiv roles, bigSep_univ_sum, bigSep_univ_sum, show (Finset.univ : Finset Unit) = {()} from rfl, bigSep_singleton]
  rfl

theorem over_bool (Φ : Bool → sProp 𝕄) : bigSep Finset.univ Φ = iprop(Φ false ∗ Φ true) :=
  bigSep_univ_eq_bigSepL [false, true] (by decide) (by decide) Φ

/-! ## The semaphores -/

/-- The kernel's own semaphores: the transfers' and the local copies'. -/
abbrev osem : (Tr ⊕ Tr) ⊕ Fin 8 → SemLoc sig
  | .inl (.inl t) => .dma t.sS | .inl (.inr t) => .dma t.rS | .inr i => .dma (lS i)

theorem ownSems_eq (c : Dev nD) :
    (Pipeline.ownSems0 (Ix := Unit) (Name := ℕ) (U := UU) (Lvl := ℕ) (Val := Elt F) (τ := τ) osem c : sProp 𝕄)
      = iprop(((bigSep Finset.univ fun t : Tr => semVal (cell (.snd t) c) 0) ∗ bigSep Finset.univ fun t : Tr => semVal (cell (.rcv t) c) 0)
          ∗ bigSep Finset.univ fun i : Fin 8 => semVal ((c : Thread nD τ), .dma (lS i)) 0) := by
  unfold Pipeline.ownSems0
  rw [bigSep_univ_sum, bigSep_univ_sum]
  rfl

/-- The barrier semaphore is the one that outlives the launch. -/
theorem unscopedSems_eq (c : Dev nD) : (unscopedSems0 c : sProp 𝕄) = semVal (cell .bar c) 0 := by
  unfold unscopedSems0; rw [bigSep_eq_bigSepL_of_eq [SemLoc.reg barS] (by decide) (by decide)]; rfl

/-! ## Cells and tokens -/

theorem cell_inj : Function.Injective (fun k : Dev nD × Role => cell k.2 k.1) := by
  rintro ⟨c, r⟩ ⟨c', r'⟩ h
  have hc : c = c' := congrArg (fun g : GSem nD τ sig => g.1.1) h
  have hr : r = r' := sem_inj (congrArg Prod.snd h)
  rw [hc, hr]
/-- The ring's cells. -/
def ringCells : Finset (GSem nD τ sig) := Finset.univ.map ⟨fun k : Dev nD × Role => cell k.2 k.1, cell_inj⟩

theorem tok_inj : Function.Injective (fun k : (Dev nD × Role) × Bool => (cell k.1.2 k.1.1, 0, k.2) : (Dev nD × Role) × Bool → GSem nD τ sig × ℕ × Bool) := by
  rintro ⟨k, d⟩ ⟨k', d'⟩ h
  have hk : k = k' := cell_inj (congrArg Prod.fst h)
  have hd : d = d' := congrArg (fun p : GSem nD τ sig × ℕ × Bool => p.2.2) h
  rw [hk, hd]
/-- A token for each cell under both names. -/
def ringToks : Finset (GSem nD τ sig × ℕ × Bool) :=
  Finset.univ.map ⟨fun k : (Dev nD × Role) × Bool => (cell k.1.2 k.1.1, 0, k.2), tok_inj⟩

/-- The ghost state at launch: the pipeline's, the ring's, and no counter in use. -/
def u₀ : UU :=
  (initOf (Pipeline.cells cfgs cellOf_inj) (Pipeline.launchToks cfgs cellOf_inj), (initOf ringCells ringToks, (1 : Counters)))

theorem own_parts (a : UR sig nD τ) (b : UB) :
    (BI.own ((uEmb (nD := nD) (sig := sig) (Ix := Unit) (Val := Elt F) (Name := ℕ) (U := UU) (Lvl := ℕ)).toEmb (a, (b, (1 : Counters)))) : sProp 𝕄)
      ⊢ iprop(BI.own (EP a) ∗ BI.own (EB b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- A device's tokens as made: its own cells'. -/
def toks (c : Dev nD) : sProp 𝕄 :=
  bigSep Finset.univ fun r : Role => iprop(dutyTok EB (cell r c) 0 false ∗ dutyTok EB (cell r c) 0 true)

/-- What the launch deals device `c`, before any invariant. -/
def G (c : Dev nD) : sProp 𝕄 :=
  iprop((bigSep Finset.univ fun r : Role => roundState EB (sched x w) (cell r c) 0)
    ∗ (bigSep Finset.univ fun r : Role => atPos EB (cell r c) 0 ∅ 0) ∗ (bigSep Finset.univ fun r : Role => reached EB (cell r c) 0) ∗ toks c)

theorem over_cells (Φ : GSem nD τ sig → sProp 𝕄) :
    bigSep ringCells Φ = bigSep Finset.univ fun c : Dev nD => bigSep Finset.univ fun r : Role => Φ (cell r c) := by
  unfold ringCells; rw [bigSep_map, bigSep_univ_prod]; rfl
theorem over_toks :
    bigSep ringToks (fun k => (dutyTok EB k.1 k.2.1 k.2.2 : sProp 𝕄)) = bigSep Finset.univ fun c : Dev nD => toks c := by
  unfold ringToks toks
  rw [bigSep_map, bigSep_univ_prod, bigSep_univ_prod]
  exact bigSep_congr fun c _ => bigSep_congr fun r _ => over_bool _

theorem fund : BI.own (EB (initOf ringCells ringToks)) ⊢ (|==> bigSep Finset.univ (G x w) : sProp 𝕄) := by
  iintro HX
  imod (Rounds.fund EB (sched x w) ringCells ringToks) $$ HX with ⟨Hst, Hr, Hat, Htok⟩
  imodintro
  ihave Hst := (Entails.of_eq (over_cells fun g => roundState EB (sched x w) g 0)) $$ Hst
  ihave Hat := (Entails.of_eq (over_cells fun g => atPos EB g 0 ∅ 0)) $$ Hat
  ihave Hr := (Entails.of_eq (over_cells fun g => reached EB g 0)) $$ Hr
  ihave Htok := (Entails.of_eq over_toks) $$ Htok
  unfold G; simp only [bigSep_sep']
  isplitl [Hst]; · iexact Hst
  isplitl [Hat]; · iexact Hat
  isplitl [Hr]; · iexact Hr
  iexact Htok

/-! ## The invariants -/

/-- What device `c` holds with its cells' invariants allocated. -/
def alloced (c : Dev nD) : sProp 𝕄 :=
  iprop((bigSep Finset.univ fun r : Role => iprop(∃ κ : ℕ, cellInv EB (sched x w) κ (cell r c)))
    ∗ (bigSep Finset.univ fun r : Role => atPos EB (cell r c) 0 ∅ 0) ∗ (bigSep Finset.univ fun r : Role => reached EB (cell r c) 0) ∗ toks c
    ∗ bigSep Finset.univ fun i : Fin 8 => semVal ((c : Thread nD τ), .dma (lS i)) 0)

theorem core_alloc (c : Dev nD) :
    iprop(Pipeline.ownSems0 (Ix := Unit) (Name := ℕ) (U := UU) (Lvl := ℕ) (Val := Elt F) (τ := τ) osem c ∗ unscopedSems0 c ∗ G x w c)
      ⊢ |={Set.univ}=> alloced x w c := by
  unfold G alloced
  rw [ownSems_eq, unscopedSems_eq]
  iintro ⟨⟨⟨Hs, Hr⟩, Hl⟩, Hb, Hst, Hat, Hre, Htok⟩
  imod (show iprop((bigSep Finset.univ fun r : Role => semVal (cell r c) 0) ∗ bigSep Finset.univ fun r : Role => roundState EB (sched x w) (cell r c) 0)
      ⊢ (|={Set.univ}=> bigSep Finset.univ fun r : Role => iprop(∃ κ : ℕ, cellInv EB (sched x w) κ (cell r c)) : sProp 𝕄) from by
        rw [← bigSep_sep']
        exact (bigSep_mono fun r _ => (Rounds.body_intro EB (sched x w) (cell r c)).trans inv_alloc).trans (bigSep_fupd _ _)) $$ [Hs Hr Hb Hst] with Hinv
  · isplitr [Hst]
    · rw [over_roles]
      isplitl [Hb]; · iexact Hb
      isplitl [Hs] <;> iassumption
    · iexact Hst
  imodintro
  isplitl [Hinv]; · iexact Hinv
  isplitl [Hat]; · iexact Hat
  isplitl [Hre]; · iexact Hre
  isplitl [Htok]; · iexact Htok
  iexact Hl

/-! ## The tokens, dealt -/

/-- The tokens of the duties device `c` pays. -/
def pays (c : Dev nD) : sProp 𝕄 :=
  iprop(dutyTok EB (cell .bar (lft c)) 0 true ∗ dutyTok EB (cell .bar (rgt c)) 0 false
    ∗ (bigSep Finset.univ fun t : Tr => dutyTok EB (cell (.snd t) c) 0 false)
    ∗ bigSep Finset.univ fun t : Tr => dutyTok EB (cell (.rcv t) (t.tgt c)) 0 false)

/-- Around the ring, one step to the right; a transfer's receivers, from its senders. -/
def ring : Dev nD ≃ Dev nD := ⟨rgt, lft, lft_rgt, rgt_lft⟩
def Tr.around (t : Tr) : Dev nD ≃ Dev nD := ⟨t.tgt, t.frm, t.frm_tgt, t.tgt_frm⟩

theorem toks_around : (bigSep Finset.univ fun c : Dev nD => (toks c : sProp 𝕄)) ⊢ bigSep Finset.univ fun c : Dev nD => pays c := by
  unfold toks pays
  simp only [over_roles]
  simp only [bigSep_sep']
  rw [bigSep_univ_equiv ring (fun c : Dev nD => (dutyTok EB (cell .bar c) 0 false : sProp 𝕄)),
    bigSep_univ_equiv ring.symm (fun c : Dev nD => (dutyTok EB (cell .bar c) 0 true : sProp 𝕄)),
    bigSep_univ_comm (fun (c : Dev nD) (t : Tr) => (dutyTok EB (cell (.rcv t) c) 0 false : sProp 𝕄)),
    bigSep_congr (s := Finset.univ) (fun (t : Tr) _ => bigSep_univ_equiv t.around (fun c : Dev nD => (dutyTok EB (cell (.rcv t) c) 0 false : sProp 𝕄))),
    bigSep_univ_comm (fun (t : Tr) (c : Dev nD) => (dutyTok EB (cell (.rcv t) (t.around c)) 0 false : sProp 𝕄))]
  iintro ⟨⟨H₁, H₂⟩, ⟨H₃, -⟩, ⟨H₄, -⟩⟩
  isplitl [H₂]; · iexact H₂
  isplitl [H₁]; · iexact H₁
  isplitl [H₃]; · iexact H₃
  iexact H₄

/-- What device `c` starts with: every cell's record, its places at its own cells, the tokens it pays with, and its own
    copies' semaphores at zero. -/
def G' (c : Dev nD) : sProp 𝕄 :=
  iprop((∃ K, records x w K) ∗ (bigSep Finset.univ fun r : Role => atPos EB (cell r c) 0 ∅ 0) ∗ pays c
    ∗ bigSep Finset.univ fun i : Fin 8 => semVal ((c : Thread nD τ), .dma (lS i)) 0)

theorem regroup : (bigSep Finset.univ fun c : Dev nD => alloced x w c) ⊢ bigSep Finset.univ (G' x w) := by
  unfold alloced
  rw [bigSep_sep', bigSep_sep', bigSep_sep', bigSep_sep',
    ← bigSep_univ_prod (fun k : Dev nD × Role => iprop(∃ κ : ℕ, cellInv EB (sched x w) κ (cell k.2 k.1))),
    ← bigSep_univ_prod (fun k : Dev nD × Role => (reached EB (cell k.2 k.1) 0 : sProp 𝕄))]
  iintro ⟨HI, Hat, Hre, Htok, Hl⟩
  ihave HK := (BI.bigSep_exists_pi Finset.univ (fun (k : Dev nD × Role) (κ : ℕ) => (cellInv EB (sched x w) κ (cell k.2 k.1) : sProp 𝕄))) $$ HI
  icases HK with ⟨%K, HI⟩
  ihave Htok := toks_around $$ Htok
  iapply (BI.bigSep_with_persistent (S := Finset.univ) (R := records x w K)
    (Φ := fun c : Dev nD => iprop((bigSep Finset.univ fun r : Role => atPos EB (cell r c) 0 ∅ 0) ∗ pays c
      ∗ bigSep Finset.univ fun i : Fin 8 => semVal ((c : Thread nD τ), .dma (lS i)) 0)) (Ψ := G' x w) fun c _ => by
        unfold G'
        iintro ⟨HR, Hrest⟩
        isplitl [HR]; · iexists K; iexact HR
        iexact Hrest)
  rw [bigSep_sep', bigSep_sep']
  isplitl [HI Hre]
  · unfold records; rw [bigSep_sep']
    isplitl [HI] <;> iassumption
  isplitl [Hat]; · iexact Hat
  isplitl [Htok] <;> iassumption

theorem glob :
    (bigSep Finset.univ fun c => iprop(Pipeline.ownSems0 (Ix := Unit) (Name := ℕ) (U := UU) (Lvl := ℕ) (Val := Elt F) (τ := τ) osem c ∗ unscopedSems0 c ∗ G x w c) : sProp 𝕄)
      ⊢ |={Set.univ}=> bigSep Finset.univ (G' x w) :=
  ((bigSep_mono fun c _ => core_alloc x w c).trans (bigSep_fupd _ _)).trans (BI.fupd_mono (regroup x w))

/-! ## The credit -/

/-- A tally on one ring cell, read on another. -/
theorem tally_cell (r r' : Role) (c c' : Dev nD) (n : ℕ) :
    (tallyAt (cell r' c') () n : CellTallies nD τ sig Unit) (cell r c) () = if r = r' ∧ c = c' then n else 0 := by
  rw [tallyAt_apply]
  refine if_congr ⟨fun h => ?_, fun h => ?_⟩ rfl rfl
  · have := cell_inj (a₁ := (c', r')) (a₂ := (c, r)) h.1.symm
    have h' := Prod.mk.inj this
    exact ⟨h'.2.symm, h'.1.symm⟩
  · rw [h.1, h.2]; exact ⟨rfl, rfl⟩

theorem from_zero : from_ 0 = Finset.univ := Finset.filter_true_of_mem fun _ _ => Nat.zero_le _

theorem debt_cell (d c : Dev nD) (r : Role) :
    debt d 0 (cell r c) () = ∑ t : Tr, if r = .rcv t ∧ c = t.tgt d then t.amt else 0 := by
  unfold debt
  rw [Finset.sum_apply, Finsupp.finset_sum_apply, from_zero]
  exact Finset.sum_congr rfl fun t _ => tally_cell r (.rcv t) c (t.tgt d) t.amt

theorem owed_rcv (d c : Dev nD) (t : Tr) : owed₀ d (cell (.rcv t) c) () = if d = t.frm c then t.amt else 0 := by
  show debt d 0 (cell (.rcv t) c) () + tallyAt (cell .bar (rgt d)) () 1 (cell (.rcv t) c) () + tallyAt (cell .bar (lft d)) () 1 (cell (.rcv t) c) () = _
  rw [debt_cell, tally_cell, tally_cell, if_neg (fun h => by cases h.1), if_neg (fun h => by cases h.1), Nat.add_zero,
    Finset.sum_eq_single t (fun t' _ h => if_neg fun h' => h (Role.rcv.inj h'.1).symm) (fun h => absurd (Finset.mem_univ t) h)]
  refine if_congr ⟨fun h => ?_, fun h => ?_⟩ rfl rfl
  · rw [h.2, Tr.frm_tgt]
  · rw [h, Tr.tgt_frm]; exact ⟨rfl, rfl⟩

theorem owed_bar (d c : Dev nD) : owed₀ d (cell .bar c) () = (if c = rgt d then 1 else 0) + (if c = lft d then 1 else 0) := by
  show debt d 0 (cell .bar c) () + tallyAt (cell .bar (rgt d)) () 1 (cell .bar c) () + tallyAt (cell .bar (lft d)) () 1 (cell .bar c) () = _
  rw [debt_cell, tally_cell, tally_cell, Finset.sum_eq_zero (fun t _ => if_neg fun h => by cases h.1), Nat.zero_add]
  simp only [true_and]

theorem neighbours (c : Dev nD) : ∑ d : Dev nD, ((if c = rgt d then 1 else 0) + (if c = lft d then 1 else 0)) = 2 := by
  revert c; decide

theorem launch_rcv (t : Tr) (c : Dev nD) :
    tallyOn (cell (.rcv t) c) (launchCredit (Pipeline.owing owed₀) 0 (cell (.rcv t) c)) = (tallyAt (cell (.rcv t) c) () t.amt : CellTallies nD τ sig Unit) := by
  unfold tallyAt; refine congrArg _ (Finsupp.ext fun u => ?_); cases u
  rw [Pipeline.launchCredit_owing, Finsupp.single_eq_same, Finset.sum_congr rfl fun d _ => owed_rcv d c t,
    Finset.sum_ite_eq' Finset.univ (t.frm c) fun _ => t.amt, if_pos (Finset.mem_univ _)]
theorem launch_bar (c : Dev nD) :
    tallyOn (cell .bar c) (launchCredit (Pipeline.owing owed₀) 0 (cell .bar c)) = (tallyAt (cell .bar c) () 2 : CellTallies nD τ sig Unit) := by
  unfold tallyAt; refine congrArg _ (Finsupp.ext fun u => ?_); cases u
  rw [Pipeline.launchCredit_owing, Finsupp.single_eq_same, Finset.sum_congr rfl fun d _ => owed_bar d c, neighbours]

/-- Device `c`'s credit: two units on its barrier, and each transfer's on its receive semaphore. -/
theorem creds (c : Dev nD) :
    (Pipeline.launchCred owed₀ c : sProp 𝕄)
      ⊢ iprop(cred (tallyAt (cell .bar c) () 2) ∗ bigSep Finset.univ fun t : Tr => cred (tallyAt (cell (.rcv t) c) () t.amt)) := by
  unfold Pipeline.launchCred
  refine BIBase.Entails.trans (bigSep_subset (Finset.subset_univ (Finset.univ.map ⟨Role.sem, sem_inj⟩))) ?_
  rw [bigSep_map, over_roles]
  iintro ⟨Hb, -, Hr⟩
  isplitl [Hb]
  · iapply (Entails.of_eq (congrArg cred (launch_bar c))); iexact Hb
  · iapply (Entails.of_eq (bigSep_congr (s := Finset.univ) fun t _ => congrArg cred (launch_rcv t c))); iexact Hr

end Cert.Ring

end
-- ==== Proof.Launch.lean ====
/-
# `Launch`: every device's run

The kernel's one call as the pipeline launches it — the device's columns staged, the body run once — with what the ring
needs dealt at the start and handed back at the end: from any memory with the counters at zero, for any float values,
the run ends on every device with the result at `OUT`, the operands as they were and every counter at zero.
-/
module

public import proofs.«01_k».proof.Proof.Ghost
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs

@[expose] public section

noncomputable section

namespace Cert.Ring

open Cert.KernelIdeal Cert.KernelIdeal.Gen Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero. -/
def s₀ : MemSt nD τ sig (Elt F) := ⟨m, fun _ => 0, ρ⟩

/-- A device's rows and its columns, as the memory holds them. -/
abbrev rows (c : Dev nD) : S1024x4096.Idx → Elt F .f32 := m ((c : Thread nD τ).loc main_arg0)
abbrev cols (c : Dev nD) : S4096x512.Idx → Elt F .bf16 := m ((c : Thread nD τ).loc main_arg1)
/-- A device's result. -/
abbrev result (c : Dev nD) : S4096x512.Idx → Elt F .f32 := OUT (rows m) (cols m) c

/-! ## The call's data -/

/-- What the launch hands device `c` for the call, the pipeline's share and the scratch buffers apart. -/
def X (c : Dev nD) : sProp 𝕄 :=
  iprop(ctx (rows m) (cols m) ∗ dutyTok EB (cell .bar (lft c)) 0 true ∗ dutyTok EB (cell .bar (rgt c)) 0 false
    ∗ (cred (tallyAt (cell .bar c) () 2) ∗ atPos EB (cell .bar c) 0 ∅ 0)
    ∗ (bigSep Finset.univ fun t : Tr => ready t c) ∗ (bigSep Finset.univ fun t : Tr => due t c)
    ∗ (bigSep Finset.univ fun i : Fin 8 => semVal ((c : Thread nD τ), .dma (lS i)) 0)
    ∗ held (c : Thread nD τ) xM.view fullShare (rows m c) ∗ filled c oM)
/-- What the call hands back. -/
def Y (c : Dev nD) : sProp 𝕄 :=
  iprop(unscopedSems0 c ∗ held (c : Thread nD τ) xM.view fullShare (rows m c) ∗ held (c : Thread nD τ) oM.view fullShare (result m c))

def Φ₀ (c : Dev nD) : sProp 𝕄 := iprop(X m c ∗ buffers c)
def Φ₁ (c : Dev nD) : sProp 𝕄 :=
  iprop(Y m c ∗ ((bigSep Finset.univ fun t : Tr => semVal (cell (.snd t) c) 0) ∗ (bigSep Finset.univ fun t : Tr => semVal (cell (.rcv t) c) 0)
    ∗ bigSep Finset.univ fun i : Fin 8 => semVal ((c : Thread nD τ), .dma (lS i)) 0) ∗ buffers c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => cols m c
  Φ t := match t with
    | ⟨0, _⟩ => Φ₀ m c
    | ⟨_ + 1, _⟩ => Φ₁ m c
  q _ := fullShare
  owed t := match t with
    | ⟨0, _⟩ => owed₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The staged block is the device's columns. -/
theorem staged (c : Dev nD) (d) : (dats m ρ 0 c).before (0 : Fin 1) t0_0 d = cols m c := by
  unfold Dat.before
  rw [if_pos (fetch0_0 t0_0)]
  refine Eq.trans (show _ = ((cfg0.win 0).blk t0_0).view.read (Elt F) (m ((c : Thread nD τ).loc main_arg1)) from rfl) ?_
  exact Memref.readAt_unit_zero (Elt F) main_arg1 (off := fun a => 0 * S4096x512.size a) (funext fun a => Nat.zero_mul _) _ (cols m c)

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc ∗ (∃ d, stg c cc0_stg0_0 ((dats m ρ 0 c).before (0 : Fin 1) t0_0 d)))
def bodyPost (c : Dev nD) : sProp 𝕄 :=
  iprop(Φ₁ m c ∗ (dats m ρ 0 c).owesAt () t0_0.succ ∗ stg c cc0_stg0_0 (cols m c))

/-- The body on device `c`, between the pipeline's state before and after its one point. -/
theorem body_at (c : Dev nD) :
    bodyPre m ρ c ⊢ wp frame (wpE (defs₀ (F := F)) 𝒱₀ (c : Thread nD τ) none) Set.univ (cc0_body (F := F) xM (Memref.isWhole_whole _) wM (Memref.isWhole_whole _) oM (Memref.isWhole_whole _) xfM (Memref.isWhole_whole _) xbM (Memref.isWhole_whole _) wlM (Memref.isWhole_whole _) wrM (Memref.isWhole_whole _) woaM (Memref.isWhole_whole _) wobM (Memref.isWhole_whole _) blM (Memref.isWhole_whole _) brM (Memref.isWhole_whole _) boaM (Memref.isWhole_whole _) bobM (Memref.isWhole_whole _) faM (Memref.isWhole_whole _) fbM (Memref.isWhole_whole _) ilM (Memref.isWhole_whole _) irM (Memref.isWhole_whole _) ioaM (Memref.isWhole_whole _) iobM (Memref.isWhole_whole _) smM (Memref.isWhole_whole _) slM (Memref.isWhole_whole _) srM (Memref.isWhole_whole _) soaM (Memref.isWhole_whole _) sobM (Memref.isWhole_whole _) cc0_scratch21 cc0_scratch22 cc0_scratch23) (fun _ => bodyPost m ρ c) := by
  unfold bodyPre Φ₀ X
  iintro ⟨⟨⟨Hctx, Tl, Tr, Hb, Hrd, Hdu, Hz, Hx, Ho⟩, Hbuf⟩, HO, ⟨%d, %f, %hf, Hw⟩⟩
  rw [staged] at hf
  subst hf
  unfold Dat.owesAt Pipeline.owesWithin
  icases HO with ⟨%W, %hW, HO⟩
  rw [show (dats m ρ 0 c).owed t0_0.castSucc = owed₀ c from rfl]
  iapply (body_run (rows m) (cols m) c) $$ [Hctx Tl Tr Hb Hrd Hdu Hz Hx Ho Hbuf HO Hw]
  · unfold before
    isplitl [Hctx]; · iexact Hctx
    isplitl [HO]; · iexists W; iexact HO
    isplitl [Tl]; · iexact Tl
    isplitl [Tr]; · iexact Tr
    isplitl [Hb]; · iexact Hb
    isplitl [Hrd]; · iexact Hrd
    isplitl [Hdu]; · iexact Hdu
    isplitl [Hz]; · iexact Hz
    isplitl [Hx]; · iexact Hx
    isplitl [Ho]; · iexact Ho
    isplitl [Hw]
    · iapply (Entails.of_eq (held_whole (c : Thread nD τ) cc0_stg0_0 fullShare (cols m c)).symm); iexact Hw
    iexact Hbuf
  unfold done owe
  iintro ⟨⟨%W', HO⟩, Hb, Hs, Hr, Hl, Hx, Ho, Hw, Hbuf⟩
  unfold bodyPost Φ₁ Y Dat.owesAt Pipeline.owesWithin
  rw [show (dats m ρ 0 c).owed t0_0.succ = 0 from rfl, unscopedSems_eq]
  isplitl [Hb Hs Hr Hl Hx Ho Hbuf]
  · isplitl [Hb Hx Ho]
    · isplitl [Hb]; · iexact Hb
      isplitl [Hx] <;> iassumption
    isplitl [Hs Hr Hl]
    · isplitl [Hs]; · iexact Hs
      isplitl [Hr] <;> iassumption
    iexact Hbuf
  isplitl [HO]
  · iexists W'
    isplitr; · ipureintro; exact fun _ _ => Or.inl trivial
    rw [← debt_end c]
    iexact HO
  iexists (cols m c)
  isplitr; · (ipureintro; rfl)
  iapply (Entails.of_eq (held_whole (c : Thread nD τ) cc0_stg0_0 fullShare (cols m c))); iexact Hw

theorem over_windows (Φ : Fin cfg0.W → sProp 𝕄) : bigSep Finset.univ Φ = iprop(Φ (0 : Fin 1)) := bigSep_W0 Φ

set_option maxRecDepth 100000 in
theorem body_obligation (c : Dev nD) : BodyObligation (dats (F := F) m ρ 0 c) (defs₀ (F := F)) 𝒱₀ () Set.univ := fun t => by
  rw [fin_N0 t]
  rw [over_windows, over_windows]
  simp only [owns_whole_eq]
  exact body_at m ρ c

/-! ## The launch -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' (rows m) (cols m) c)
      ⊢ |={Set.univ}=> iprop(X m c ∗ emp) := by
  rw [Pipeline.unscopedRestP_none, unscopedRest0_eq]
  unfold G' pays X ctx ready due filled
  simp only [bigSep_sep']
  rw [over_roles]
  iintro ⟨⟨Hx, Ho⟩, Hlev, Hcr, -, ⟨HK, ⟨Ab, As, Ar⟩, ⟨Tl, Tr, Ts, Tv⟩, Hl⟩⟩
  ihave Hcr := (creds (F := F) c) $$ Hcr
  icases Hcr with ⟨Cb, Cr⟩
  imodintro
  isplitl
  · isplitl [HK Hlev]
    · isplitl [HK] <;> iassumption
    isplitl [Tl]; · iexact Tl
    isplitl [Tr]; · iexact Tr
    isplitl [Cb Ab]
    · isplitl [Cb] <;> iassumption
    isplitl [Ts Tv As]
    · isplitl [Ts]; · iexact Ts
      isplitl [Tv] <;> iassumption
    isplitl [Cr Ar]
    · isplitl [Cr] <;> iassumption
    isplitl [Hl]; · iexact Hl
    isplitl [Hx]
    · iapply (Entails.of_eq (held_whole (c : Thread nD τ) main_arg0 fullShare (rows m c)).symm); iexact Hx
    iexists (m ((c : Thread nD τ).loc main_v1))
    iapply (Entails.of_eq (held_whole (c : Thread nD τ) main_v1 fullShare (m ((c : Thread nD τ).loc main_v1))).symm); iexact Ho
  · iempintro

/-- The scratch buffers, as the launch lists them. -/
theorem buffers_eq (c : Dev nD) : (Pipeline.scopedRest cfg0.spec c : sProp 𝕄) = buffers c := by
  refine (scopedRest0_eq c).trans ?_
  unfold buffers filled
  simp only [Memref.view_whole, held_whole]
  rfl

theorem phi0_intro (c : Dev nD) :
    iprop(X m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, buffers_eq]
  unfold Φ₀
  iintro ⟨Hs, -, Hr⟩
  isplitl [Hs] <;> iassumption

theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = Φ₁ m c from rfl, buffers_eq, ownSems_eq]
  unfold Φ₁
  iintro ⟨HY, ⟨Hs, Hr, Hl⟩, Hbuf⟩
  isplitl [HY]; · iexact HY
  isplitl [Hs Hr Hl]
  · isplitl [Hs Hr]
    · isplitl [Hs] <;> iassumption
    iexact Hl
  iexact Hbuf

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_owed c _ (by fin_cases w; fin_cases s; rfl)
    · show (levAts L lv : sProp 𝕄) ⊢ MayWait _ _ _ 0
      rw [MayWait_zero]; iintro -; iempintro

/-- What a run ends with on device `c`, read off its memory. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = rows m c ∧ s.mem ((c : Thread nD τ).loc main_v1) = result m c

theorem read_end (c : Dev nD) (s' : Phys nD τ sig (Elt F)) :
    iprop(Y m c ∗ emp ∗ SI s') ⊢ |={Set.univ}=> (iprop(⌜QY m c s'.mem⌝ ∗ SI s') : sProp 𝕄) := by
  unfold Y
  rw [show (held (c : Thread nD τ) xM.view fullShare (rows m c) : sProp 𝕄) = ((c : Thread nD τ).loc main_arg0 ↦{fullShare} rows m c) from
      held_whole (c : Thread nD τ) main_arg0 fullShare (rows m c),
    show (held (c : Thread nD τ) oM.view fullShare (result m c) : sProp 𝕄) = ((c : Thread nD τ).loc main_v1 ↦{fullShare} result m c) from
      held_whole (c : Thread nD τ) main_v1 fullShare (result m c)]
  iintro ⟨⟨Hu, Hx, Ho⟩, -, HSI⟩
  icombine HSI Hx gives %hx
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro; exact ⟨hs, Buf.eq_of_forall_mem_univ hx, Buf.eq_of_forall_mem_univ ho⟩
  iexact HSI

set_option maxRecDepth 8000 in
/-- From any memory with the counters at zero, for any float values: every run ends, with each device's result at its
    value, its operands as they were and every counter at zero. -/
theorem run_main : θ_run defs (onTc (τ := τ) (main (F := F))) (s₀ m ρ) (fun r =>
      (∀ c : Dev nD, r.2.mem ((c : Thread nD τ).loc main_v1) = result m c
        ∧ r.2.mem ((c : Thread nD τ).loc main_arg0) = rows m c ∧ r.2.mem ((c : Thread nD τ).loc main_arg1) = cols m c)
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G (rows m) (cols m)) (G' := G' (rows m) (cols m)) (u₀ := u₀)
    (hu₀ := by
      unfold u₀
      iintro Hu
      ihave H := ((Entails.of_eq (by unfold ownU; rfl)).trans (own_parts (initOf (Pipeline.cells cfgs cellOf_inj) (Pipeline.launchToks cfgs cellOf_inj)) (initOf ringCells ringToks))) $$ Hu
      icases H with ⟨HP, HX⟩
      imod (fund (rows m) (cols m)) $$ HX with HG
      imodintro
      isplitl [HP] <;> iassumption)
    (hglob := glob (rows m) (cols m))
    (hA := fun _ _ => rfl) (hpf := fun _ k => k.elim0)
    (X := X m) (Y := Y m) (Z := fun _ => iprop(emp))
    (hX := start_intro m ρ) (hin := phi0_intro m ρ) (hout := phi1_exit m ρ)
    (QY := QY m) (hY := read_end m)
    (hQ := fun _ h hs => ⟨fun c => ⟨(h c).2.2.2.2, (h c).2.2.2.1, ((h c).1 0).trans ((dats m ρ 0 c).arrAt_in 0 rfl _)⟩,
      sem_eq_zero hs fun c => (h c).2.2.1⟩)

end Cert.Ring

end
-- ==== Proof.Values.lean ====
/-
# `Values`: a device's result is its columns of the product

At the extended reals, where a change of format is the identity and a contraction is the sum of products: every element
of a device's result, whichever device its piece came from, is its row of the whole left operand against its column of
the device's right operand. So the result is the device's block of the reference's product.
-/
module

public import proofs.«01_k».proof.Proof.Out
public import proofs.«01_k».proof.Proof.Gen.ReferenceIdeal
public import Idealize.ShloMosaic.Lib.MatmulPlain
public import Idealize.ShloMosaic.Lib.StackMember
public import Idealize.ShloMosaic.Lib.Layout
public import Idealize.ShloMosaic.Lib.Pipeline.Value

@[expose] public section

noncomputable section

namespace Cert.Ring

open Cert.KernelIdeal Cert.KernelIdeal.Gen

open Idealize.ShloMosaic
open Idealize.ShloMosaic.ValueIdx (ix2)

/-! ## The products' elements -/

/-- Zero, the accumulator of both products, at an index. -/
theorem zero_at {s : Shape} (i : s.Idx) : (constant s .f32 0x00000000#32 : FVec Ideal s .f32) i = 0 := by
  exact Ideal.ofBits_zero_f32

/-- The rows rounded for the product are the rows. -/
theorem xb_at (x : Dev nD → S1024x4096.Idx → Elt Ideal .f32) (c : Dev nD) (i : S1024x4096.Idx) : xb x c i = x c i := by
  show k0_pay1 (x c) i = _
  rw [k0_pay1, shapeCast_self]; rfl

/-- An element of the product of a device's own rows and columns. -/
theorem own_at (X : S1024x4096.Idx → Elt Ideal .bf16) (W : S4096x512.Idx → Elt Ideal .bf16) (r : Fin 1024) (j : Fin 512) :
    k0_pay2 X W (ix2 r j) = ∑ k : Fin 4096, X (ix2 r k) * W (ix2 k j) := by
  rw [k0_pay2, shapeCast_self, shapeCast_self]
  refine (Ideal.matmul_plain_apply none X W _ r j).trans ?_
  rw [zero_at, zero_add]

/-- An element of the product sent to another device, as that device widens it. -/
theorem sent_at (X : S1024x4096.Idx → Elt Ideal .bf16) (W : S4096x256.Idx → Elt Ideal .bf16) (r : Fin 1024) (j : Fin 256) :
    k0_pay7 (prod X W) (ix2 r j) = ∑ k : Fin 4096, X (ix2 r k) * W (ix2 k j) := by
  rw [k0_pay7, shapeCast_self]
  show k0_pay3 X W (ix2 r j) = _
  rw [k0_pay3, shapeCast_self]
  refine (Ideal.matmul_plain_apply (φ₁ := .bf16) (φ₂ := .bf16) none X W _ r j).trans ?_
  rw [zero_at, zero_add]

/-! ## The pieces' elements -/

section
variable (x : Dev nD → S1024x4096.Idx → Elt Ideal .f32) (w : Dev nD → S4096x512.Idx → Elt Ideal .bf16)

/-- Device `d`'s row, among its own 1024, against device `c`'s column. -/
def entry (d c : Dev nD) (r : Fin 1024) (j : Fin 512) : Elt Ideal .f32 := ∑ k : Fin 4096, x d (ix2 r k) * w c (ix2 k j)

/-- An element of a received piece: if what was sent is device `d`'s rows' product with the half of `c`'s columns the
    element lies in, it is that device's row against that column. -/
theorem half_at (d c : Dev nD) (i : S4096x512.Idx) {v : S1024x256.Idx → Elt Ideal .bf16}
    (hv : v = prod (xb x d) (if (i 1).val < 256 then wa w c else wb w c)) : at256 (k0_pay7 v) i
      = entry x w d c ⟨(i 0).val % 1024, Nat.mod_lt _ (by decide)⟩ ⟨(i 1).val, (i 1).isLt⟩ := by
  have h1 : (i 1).val < 512 := (i 1).isLt
  rw [hv, at256, sent_at]
  refine Finset.sum_congr rfl fun k _ => ?_
  rw [xb_at]
  refine congrArg (_ * ·) ?_
  split
  · refine congrArg (w c) (funext fun a => Fin.ext ?_)
    show (ka.emb _ a).val = _
    rw [Rect.emb_apply]
    fin_cases a
    · show 0 + 1 * k.val = k.val; omega
    · show 0 + 1 * ((i 1).val % 256) = (i 1).val; omega
  · refine congrArg (w c) (funext fun a => Fin.ext ?_)
    show (kb.emb _ a).val = _
    rw [Rect.emb_apply]
    fin_cases a
    · show 0 + 1 * k.val = k.val; omega
    · show 256 + 1 * ((i 1).val % 256) = (i 1).val; omega

/-- Four steps around the ring lead back. -/
theorem lft4 (c : Dev nD) : lft (lft (lft (lft c))) = c := by revert c; decide
theorem rgt4 (c : Dev nD) : rgt (rgt (rgt (rgt c))) = c := by revert c; decide

/-- **Every element of a device's result** is the row it lies in, of the device whose rows those are, against its column. -/
theorem OUT_eq (c : Dev nD) (i : S4096x512.Idx) (d : Dev nD) (hd : (i 0).val / 1024 = d.val) :
    OUT x w c i = entry x w d c ⟨(i 0).val % 1024, Nat.mod_lt _ (by decide)⟩ ⟨(i 1).val, (i 1).isLt⟩ := by
  have hc : c.val < 4 := c.isLt
  have hd4 : d.val < 4 := d.isLt
  rw [OUT, place, hd]
  split_ifs with h0 hr hj hl hj hj
  · obtain rfl : d = c := Fin.ext h0
    show at512 (k0_pay2 (xb x d) (w d)) i = _
    rw [at512, own_at]
    exact Finset.sum_congr rfl fun k _ => by rw [xb_at]
  · obtain rfl : d = rgt c := Fin.ext hr
    exact half_at x w _ c i (by rw [if_pos hj, Tr.val, lft_rgt])
  · obtain rfl : d = rgt c := Fin.ext hr
    exact half_at x w _ c i (by rw [if_neg hj, Tr.val, lft_rgt])
  · obtain rfl : d = lft c := Fin.ext hl
    exact half_at x w _ c i (by rw [if_pos hj, Tr.val, rgt_lft])
  · obtain rfl : d = lft c := Fin.ext hl
    exact half_at x w _ c i (by rw [if_neg hj, Tr.val, rgt_lft])
  all_goals obtain rfl : d = rgt (rgt c) := Fin.ext (show d.val = ((c.val + 1) % 4 + 1) % 4 by omega)
  · exact half_at x w _ c i (by rw [if_pos hj, Tr.val, lft4, lft_lft])
  · exact half_at x w _ c i (by rw [if_neg hj, Tr.val, rgt4])

end

/-! ## The result against the reference's -/

/-- **A device's result is its columns of the product**, when its operands are its rows and its columns of the whole ones. -/
theorem OUT_block (X : FVec Ideal ⟨2, ![4096, 4096]⟩ .f32) (W : FVec Ideal ⟨2, ![4096, 2048]⟩ .bf16)
    (x : Dev nD → S1024x4096.Idx → Elt Ideal .f32) (w : Dev nD → S4096x512.Idx → Elt Ideal .bf16)
    (hx : ∀ c : Dev nD, x c = Layout.block ⟨2, ![1024, 4096]⟩ ⟨2, ![4096, 4096]⟩ 0 4 c X)
    (hw : ∀ c : Dev nD, w c = Layout.block ⟨2, ![4096, 512]⟩ ⟨2, ![4096, 2048]⟩ 1 4 c W) (c : Dev nD) :
    OUT x w c = Layout.block ⟨2, ![4096, 512]⟩ ⟨2, ![4096, 2048]⟩ 1 4 c
      (Host.dotGeneral (F := Ideal) (φ₁ := .f32) (φ₂ := .bf16) ReferenceIdeal.dot_S4096x4096_S4096x2048_S4096x2048_1_0_0_1_n_n none X W) := by
  funext i
  have h0 : (i 0).val < 4096 := (i 0).isLt
  have h1 : (i 1).val < 512 := (i 1).isLt
  rw [OUT_eq x w c i ⟨(i 0).val / 1024, by show _ < 4; omega⟩ rfl, Layout.block_apply, ValueIdx.eq_ix2 (Layout.Tiles.idx _ c i)]
  refine Eq.trans ?_ (StackMember.dotGeneral_plain_apply (φ₁ := .f32) (φ₂ := .bf16) none X W _ _).symm
  refine Finset.sum_congr rfl fun k _ => ?_
  rw [hx, hw]
  refine congrArg₂ (· * ·) (congrArg X (funext fun a => Fin.ext ?_)) (congrArg W (funext fun a => Fin.ext ?_))
  · fin_cases a
    · show (i 0).val / 1024 * 1024 + (i 0).val % 1024 = (i 0).val; omega
    · rfl
  · fin_cases a <;> rfl

end Cert.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Values
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The two printed bodies are one text, so the two body tables are the same. -/
theorem defs₀_eq : Cert.Kernel.defs₀ (F := Bits) = Cert.KernelIdeal.defs₀ (F := Bits) := by
  funext p
  cases p with
  | tc => funext l a; match l, a with | ⟨0, _⟩, a => rfl
  | scScalar _ => rfl
  | scVector _ _ => rfl

/-- So are the tables with the pipeline's own bodies. -/
theorem defs_eq : Cert.Kernel.defs (F := Bits) = Cert.KernelIdeal.defs (F := Bits) :=
  congrArg (Pipeline.defs Cert.KernelIdeal.pcfgs) defs₀_eq

/-- The kernel's run at the bit-exact floats: every device's operands as they were, every counter at zero. -/
theorem frame_kernel : Cert.quiescent_Kernel := fun m ρ _ => by
  rw [defs_eq]
  exact (θ_run Cert.KernelIdeal.defs _ _).mono (fun _ h => And.intro (fun c => (h.1 c).2) h.2) (Cert.Ring.run_main (F := Bits) m ρ)

/-- The same at the extended reals. -/
theorem frame_kernelIdeal : Cert.quiescent_KernelIdeal := fun m ρ _ =>
  (θ_run Cert.KernelIdeal.defs _ _).mono (fun _ h => ⟨fun c => (h.1 c).2, h.2⟩) (Cert.Ring.run_main (F := Ideal) m ρ)

/-- The reference's one operation leaves its arguments; it declares no counter. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's devices end with the reference's product, each with its own columns of it. -/
theorem algebraic : Cert.algebraic_KernelIdeal_ReferenceIdeal := fun m g m' g' _ hin =>
  ⟨_,
    (θ_run Cert.KernelIdeal.defs _ _).mono
      (fun _ h c => ⟨(h.1 c).1.trans (Cert.Ring.OUT_block _ _ _ _ (fun d => (hin d).1) (fun d => (hin d).2) c), (h.1 c).2⟩)
      (Cert.Ring.run_main (F := Ideal) m g),
    (θ_run Cert.ReferenceIdeal.defs _ _).mono (fun _ h => h 0) (Cert.ReferenceIdeal.Value.run (F := Ideal) m' g')⟩

/-- Every claim of the certificate. The kernel's program over the extended reals is its own text, so `preserves` asks nothing. -/
theorem claim : Cert.Claim := ⟨Cert.Kernel.Gen.facts, Cert.KernelIdeal.Gen.facts, Cert.ReferenceIdeal.Gen.facts,
  frame_kernel, frame_kernelIdeal, frame_ref, trivial, algebraic⟩

end Cert.Proof

end
